-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x1024x3584 : Shape := ⟨3, ![1, 1024, 3584]⟩
abbrev S29 : Shape := ⟨1, ![29]⟩
abbrev S1243 : Shape := ⟨1, ![1243]⟩
abbrev S1243x128x128 : Shape := ⟨3, ![1243, 128, 128]⟩
abbrev S1x1243 : Shape := ⟨2, ![1, 1243]⟩
abbrev S29x1 : Shape := ⟨2, ![29, 1]⟩
abbrev S29x1243 : Shape := ⟨2, ![29, 1243]⟩
abbrev S_ : Shape := ⟨0, ![]⟩
abbrev S148x28 : Shape := ⟨2, ![148, 28]⟩
abbrev S1243x1 : Shape := ⟨2, ![1243, 1]⟩
abbrev S1243x2 : Shape := ⟨2, ![1243, 2]⟩
abbrev S148x28x1 : Shape := ⟨3, ![148, 28, 1]⟩
abbrev S1 : Shape := ⟨1, ![1]⟩
abbrev S1x1x1 : Shape := ⟨3, ![1, 1, 1]⟩
abbrev S148 : Shape := ⟨1, ![148]⟩
abbrev S1024x3584 : Shape := ⟨2, ![1024, 3584]⟩
abbrev S1024x18944 : Shape := ⟨2, ![1024, 18944]⟩
abbrev S1024x128 : Shape := ⟨2, ![1024, 128]⟩
abbrev S1x1 : Shape := ⟨2, ![1, 1]⟩
abbrev S1x128x128 : Shape := ⟨3, ![1, 128, 128]⟩
abbrev S128x128 : Shape := ⟨2, ![128, 128]⟩

abbrev nBuf : Space → Nat
  | .hbm => 67
  | .vmem => 5
  | .smem => 4
  | _ => 0

abbrev bufTy : (tb : Table) → Fin (tcTables nBuf tb) → BufTy
  | .hbm, ⟨0, _⟩ => ⟨S1x1024x3584, .bf16⟩
  | .hbm, ⟨1, _⟩ => ⟨S29, .i32⟩
  | .hbm, ⟨2, _⟩ => ⟨S1243, .i32⟩
  | .hbm, ⟨3, _⟩ => ⟨S1243x128x128, .fp8e4m3⟩
  | .hbm, ⟨4, _⟩ => ⟨S1243, .f32⟩
  | .hbm, ⟨5, _⟩ => ⟨S1243, .i32⟩
  | .hbm, ⟨6, _⟩ => ⟨S1x1243, .i32⟩
  | .hbm, ⟨7, _⟩ => ⟨S29x1, .i32⟩
  | .hbm, ⟨8, _⟩ => ⟨S29x1243, .i32⟩
  | .hbm, ⟨9, _⟩ => ⟨S29x1243, .i32⟩
  | .hbm, ⟨10, _⟩ => ⟨S29x1243, .i1⟩
  | .hbm, ⟨11, _⟩ => ⟨S29x1243, .i32⟩
  | .hbm, ⟨12, _⟩ => ⟨S_, .i32⟩
  | .hbm, ⟨13, _⟩ => ⟨S1243, .i32⟩
  | .hbm, ⟨14, _⟩ => ⟨S_, .i32⟩
  | .hbm, ⟨15, _⟩ => ⟨S1243, .i32⟩
  | .hbm, ⟨16, _⟩ => ⟨S1243, .i32⟩
  | .hbm, ⟨17, _⟩ => ⟨S_, .i32⟩
  | .hbm, ⟨18, _⟩ => ⟨S148x28, .i32⟩
  | .hbm, ⟨19, _⟩ => ⟨S_, .i32⟩
  | .hbm, ⟨20, _⟩ => ⟨S1243, .i32⟩
  | .hbm, ⟨21, _⟩ => ⟨S1243, .i1⟩
  | .hbm, ⟨22, _⟩ => ⟨S_, .i32⟩
  | .hbm, ⟨23, _⟩ => ⟨S1243, .i32⟩
  | .hbm, ⟨24, _⟩ => ⟨S1243, .i32⟩
  | .hbm, ⟨25, _⟩ => ⟨S1243, .i32⟩
  | .hbm, ⟨26, _⟩ => ⟨S_, .i32⟩
  | .hbm, ⟨27, _⟩ => ⟨S1243, .i32⟩
  | .hbm, ⟨28, _⟩ => ⟨S1243, .i1⟩
  | .hbm, ⟨29, _⟩ => ⟨S_, .i32⟩
  | .hbm, ⟨30, _⟩ => ⟨S1243, .i32⟩
  | .hbm, ⟨31, _⟩ => ⟨S1243, .i32⟩
  | .hbm, ⟨32, _⟩ => ⟨S1243, .i32⟩
  | .hbm, ⟨33, _⟩ => ⟨S1243x1, .i32⟩
  | .hbm, ⟨34, _⟩ => ⟨S1243x1, .i32⟩
  | .hbm, ⟨35, _⟩ => ⟨S1243x2, .i32⟩
  | .hbm, ⟨36, _⟩ => ⟨S148x28, .i32⟩
  | .hbm, ⟨37, _⟩ => ⟨S148x28, .i32⟩
  | .hbm, ⟨38, _⟩ => ⟨S148x28, .i32⟩
  | .hbm, ⟨39, _⟩ => ⟨S_, .i32⟩
  | .hbm, ⟨40, _⟩ => ⟨S148x28, .i32⟩
  | .hbm, ⟨41, _⟩ => ⟨S148x28, .i1⟩
  | .hbm, ⟨42, _⟩ => ⟨S_, .i32⟩
  | .hbm, ⟨43, _⟩ => ⟨S148x28, .i32⟩
  | .hbm, ⟨44, _⟩ => ⟨S148x28, .i32⟩
  | .hbm, ⟨45, _⟩ => ⟨S148x28, .i32⟩
  | .hbm, ⟨46, _⟩ => ⟨S148x28x1, .i32⟩
  | .hbm, ⟨47, _⟩ => ⟨S1, .i32⟩
  | .hbm, ⟨48, _⟩ => ⟨S_, .i32⟩
  | .hbm, ⟨49, _⟩ => ⟨S148x28x1, .i32⟩
  | .hbm, ⟨50, _⟩ => ⟨S148x28x1, .i1⟩
  | .hbm, ⟨51, _⟩ => ⟨S1x1x1, .i32⟩
  | .hbm, ⟨52, _⟩ => ⟨S148x28x1, .i32⟩
  | .hbm, ⟨53, _⟩ => ⟨S148x28x1, .i1⟩
  | .hbm, ⟨54, _⟩ => ⟨S148x28x1, .i1⟩
  | .hbm, ⟨55, _⟩ => ⟨S_, .i1⟩
  | .hbm, ⟨56, _⟩ => ⟨S148x28, .i1⟩
  | .hbm, ⟨57, _⟩ => ⟨S148x28, .i32⟩
  | .hbm, ⟨58, _⟩ => ⟨S_, .i32⟩
  | .hbm, ⟨59, _⟩ => ⟨S148x28, .i32⟩
  | .hbm, ⟨60, _⟩ => ⟨S_, .i32⟩
  | .hbm, ⟨61, _⟩ => ⟨S148x28, .i32⟩
  | .hbm, ⟨62, _⟩ => ⟨S148x28, .i1⟩
  | .hbm, ⟨63, _⟩ => ⟨S148x28, .i32⟩
  | .hbm, ⟨64, _⟩ => ⟨S_, .i32⟩
  | .hbm, ⟨65, _⟩ => ⟨S1024x3584, .bf16⟩
  | .hbm, ⟨66, _⟩ => ⟨S1024x18944, .bf16⟩
  | .local _ .vmem, ⟨0, _⟩ => ⟨S1024x3584, .bf16⟩
  | .local _ .vmem, ⟨1, _⟩ => ⟨S1243x128x128, .fp8e4m3⟩
  | .local _ .vmem, ⟨2, _⟩ => ⟨S1024x128, .bf16⟩
  | .local _ .vmem, ⟨3, _⟩ => ⟨S1024x128, .bf16⟩
  | .local _ .vmem, ⟨4, _⟩ => ⟨S1024x128, .f32⟩
  | .local _ .smem, ⟨0, _⟩ => ⟨S148x28, .i32⟩
  | .local _ .smem, ⟨1, _⟩ => ⟨S148x28, .i32⟩
  | .local _ .smem, ⟨2, _⟩ => ⟨S148, .i32⟩
  | .local _ .smem, ⟨3, _⟩ => ⟨S1243, .f32⟩
  | _, _ => ⟨S1x1024x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨3, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_call0_v0 : Ref sig .tc := ⟨.hbm, 6, rfl⟩
abbrev main_call0_call0_v1 : Ref sig .tc := ⟨.hbm, 7, rfl⟩
abbrev main_call0_call0_v2 : Ref sig .tc := ⟨.hbm, 8, rfl⟩
abbrev main_call0_call0_v3 : Ref sig .tc := ⟨.hbm, 9, rfl⟩
abbrev main_call0_call0_v4 : Ref sig .tc := ⟨.hbm, 10, rfl⟩
abbrev main_call0_call0_v5 : Ref sig .tc := ⟨.hbm, 11, rfl⟩
abbrev main_call0_call0_c : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_v3 : Ref sig .tc := ⟨.hbm, 16, rfl⟩
abbrev main_c_0 : Ref sig .tc := ⟨.hbm, 17, rfl⟩
abbrev main_v4 : Ref sig .tc := ⟨.hbm, 18, rfl⟩
abbrev main_c_1 : Ref sig .tc := ⟨.hbm, 19, rfl⟩
abbrev main_v5 : Ref sig .tc := ⟨.hbm, 20, rfl⟩
abbrev main_v6 : Ref sig .tc := ⟨.hbm, 21, rfl⟩
abbrev main_c_2 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_c_3 : Ref sig .tc := ⟨.hbm, 26, rfl⟩
abbrev main_v10 : Ref sig .tc := ⟨.hbm, 27, rfl⟩
abbrev main_v11 : Ref sig .tc := ⟨.hbm, 28, rfl⟩
abbrev main_c_4 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_call1_v0 : Ref sig .tc := ⟨.hbm, 37, rfl⟩
abbrev main_call1_v1_0 : Ref sig .tc := ⟨.hbm, 38, rfl⟩
abbrev main_call2_c : Ref sig .tc := ⟨.hbm, 39, rfl⟩
abbrev main_call2_v0 : Ref sig .tc := ⟨.hbm, 40, rfl⟩
abbrev main_call2_v1 : Ref sig .tc := ⟨.hbm, 41, rfl⟩
abbrev main_call2_c_0 : Ref sig .tc := ⟨.hbm, 42, rfl⟩
abbrev main_call2_v2 : Ref sig .tc := ⟨.hbm, 43, rfl⟩
abbrev main_call2_v3 : Ref sig .tc := ⟨.hbm, 44, rfl⟩
abbrev main_call2_v4 : Ref sig .tc := ⟨.hbm, 45, rfl⟩
abbrev main_call2_v5 : Ref sig .tc := ⟨.hbm, 46, rfl⟩
abbrev main_call2_c_1 : Ref sig .tc := ⟨.hbm, 47, rfl⟩
abbrev main_call2_c_2 : Ref sig .tc := ⟨.hbm, 48, rfl⟩
abbrev main_call2_v6 : Ref sig .tc := ⟨.hbm, 49, rfl⟩
abbrev main_call2_v7 : Ref sig .tc := ⟨.hbm, 50, rfl⟩
abbrev main_call2_v8 : Ref sig .tc := ⟨.hbm, 51, rfl⟩
abbrev main_call2_v9 : Ref sig .tc := ⟨.hbm, 52, rfl⟩
abbrev main_call2_v10 : Ref sig .tc := ⟨.hbm, 53, rfl⟩
abbrev main_call2_v11 : Ref sig .tc := ⟨.hbm, 54, rfl⟩
abbrev main_call2_c_3 : Ref sig .tc := ⟨.hbm, 55, rfl⟩
abbrev main_call2_v12 : Ref sig .tc := ⟨.hbm, 56, rfl⟩
abbrev main_call2_v13 : Ref sig .tc := ⟨.hbm, 57, rfl⟩
abbrev main_call2_c_4 : Ref sig .tc := ⟨.hbm, 58, rfl⟩
abbrev main_call2_v14 : Ref sig .tc := ⟨.hbm, 59, rfl⟩
abbrev main_c_5 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_c_6 : Ref sig .tc := ⟨.hbm, 64, rfl⟩
abbrev main_v25 : Ref sig .tc := ⟨.hbm, 65, rfl⟩
abbrev main_v26 : Ref sig .tc := ⟨.hbm, 66, rfl⟩
abbrev main_v19 : Ref sig .tc := ⟨.smem, 0, rfl⟩
abbrev main_v20 : Ref sig .tc := ⟨.smem, 1, rfl⟩
abbrev main_v24 : Ref sig .tc := ⟨.smem, 2, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg3_1 : Ref sig .tc := ⟨.vmem, 3, rfl⟩
abbrev cc0_scratch0 : Ref sig .tc := ⟨.vmem, 4, rfl⟩
abbrev cc0_stg0_0 : Ref sig .tc := ⟨.smem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4

abbrev nD : Nat := 1
abbrev τ : Topo := Topo.v7x

variable {F : FTy → Type} [FloatOps F]

abbrev grid0 : Pipeline.Grid := ⟨1, ![148], ![false]⟩

abbrev pre0 : Pipeline.Prefetch sig := ⟨3, ![main_v19.idx, main_v20.idx, main_v24.idx], fun | 0 => main_v19.names | 1 => main_v20.names | 2 => main_v24.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v4 : Index := Scalar.indexCast arg0
  ![v4.toNat]
@[reducible] def k0_t1_loop (v5 : BitVec 32) : Scf.Loop 32 :=
  let c0_i32 : BitVec 32 := 0#32
  let v6 : BitVec 32 := Scalar.subi v5 c0_i32
  let c1_i32 : BitVec 32 := 1#32
  let v8 : BitVec 32 := Scalar.divsi v6 c1_i32
  let v9 : BitVec 32 := Scalar.muli v8 c1_i32
  let v10 : BitVec 32 := Scalar.addi c0_i32 v9
  let c1_i32_2 : BitVec 32 := 1#32
  ⟨c0_i32, v10, c1_i32_2⟩

def k0_off2 (i : grid0.Coords) (v5 : BitVec 32) (k0_t1 : Fin (k0_t1_loop v5).trips) : Fin 2 → Nat :=
  let arg0 : BitVec 32 := BitVec.ofNat 32 (i 0).val
  let v16 : Index := Scalar.indexCast arg0
  let c0_i32 : BitVec 32 := 0#32
  let c1_i32_2 : BitVec 32 := 1#32
  let arg9 : BitVec 32 := Scf.iv c0_i32 c1_i32_2 k0_t1
  let v17 : Index := Scalar.indexCast arg9
  ![v16.toNat, v17.toNat]
def k0_off3 (v21 : BitVec 32) : Fin 3 → Nat :=
  let v22 : Index := Scalar.indexCast v21
  let c0_8 : Index := 0#32
  let c0_9 : Index := 0#32
  ![v22.toNat, 0, 0]

def k0_off4 (v21 : BitVec 32) : Fin 1 → Nat :=
  let v26 : Index := Scalar.indexCast v21
  ![v26.toNat]

def k0_chk2 (v21 : BitVec 32) : Prop :=
  (∀ a, (k0_off3 v21) a + S1x128x128.size a ≤ S1243x128x128.size a) ∧
  (∀ a, (k0_off4 v21) a + S1.size a ≤ S1243.size a)
theorem k0_off3_inb : ∀ (v21 : BitVec 32) (k0_hw2 : k0_chk2 v21), ∀ a, (k0_off3 v21) a + S1x128x128.size a ≤ S1243x128x128.size a := fun v21 k0_hw2 => k0_hw2.1
theorem k0_off4_inb : ∀ (v21 : BitVec 32) (k0_hw2 : k0_chk2 v21), ∀ a, (k0_off4 v21) a + S1.size a ≤ S1243.size a := fun v21 k0_hw2 => k0_hw2.2

def k0_mult1 (v18 : BitVec 32) : BitVec 32 :=
  let c128_i32 : BitVec 32 := 128#32
  let v31 : BitVec 32 := Scalar.muli v18 c128_i32
  v31

def k0_off5 (v18 : BitVec 32) : Fin 2 → Nat :=
  let c0_10 : Index := 0#32
  let c128_i32 : BitVec 32 := 128#32
  let v31 : BitVec 32 := Scalar.muli v18 c128_i32
  let v32 : BitVec 32 := v31
  let v33 : Index := Scalar.indexCast v32
  ![0, v33.toNat]

def k0_chk3 (v18 : BitVec 32) : Prop :=
  (128 ∣ (k0_mult1 v18).toNat) ∧
  (∀ a, (k0_off5 v18) a + S1024x128.size a ≤ S1024x3584.size a)
theorem k0_mult1_dvd : ∀ (v18 : BitVec 32) (k0_hw3 : k0_chk3 v18), 128 ∣ (k0_mult1 v18).toNat := fun v18 k0_hw3 => k0_hw3.1
theorem k0_off5_inb : ∀ (v18 : BitVec 32) (k0_hw3 : k0_chk3 v18), ∀ a, (k0_off5 v18) a + S1024x128.size a ≤ S1024x3584.size a := fun v18 k0_hw3 => k0_hw3.2

@[reducible] def k0_t2_loop (v5 : BitVec 32) : Scf.Loop 32 :=
  let c0_i32 : BitVec 32 := 0#32
  let v6 : BitVec 32 := Scalar.subi v5 c0_i32
  let c1_i32 : BitVec 32 := 1#32
  let v8 : BitVec 32 := Scalar.divsi v6 c1_i32
  let v9 : BitVec 32 := Scalar.muli v8 c1_i32
  let v10 : BitVec 32 := Scalar.addi c0_i32 v9
  let v7 : BitVec 32 := Scalar.addi c0_i32 v6
  let c1_i32_3 : BitVec 32 := 1#32
  ⟨v10, v7, c1_i32_3⟩
def k0_off6 (i : grid0.Coords) (v5 : BitVec 32) (k0_t2 : Fin (k0_t2_loop v5).trips) : Fin 2 → Nat :=
  let arg0 : BitVec 32 := BitVec.ofNat 32 (i 0).val
  let v16 : Index := Scalar.indexCast arg0
  let c0_i32 : BitVec 32 := 0#32
  let v6 : BitVec 32 := Scalar.subi v5 c0_i32
  let c1_i32 : BitVec 32 := 1#32
  let v8 : BitVec 32 := Scalar.divsi v6 c1_i32
  let v9 : BitVec 32 := Scalar.muli v8 c1_i32
  let v10 : BitVec 32 := Scalar.addi c0_i32 v9
  let c1_i32_3 : BitVec 32 := 1#32
  let arg9 : BitVec 32 := Scf.iv v10 c1_i32_3 k0_t2
  let v17 : Index := Scalar.indexCast arg9
  ![v16.toNat, v17.toNat]

def k0_chk1 (i : grid0.Coords) (v5 : BitVec 32) : Prop :=
  ((k0_t1_loop v5).OK) ∧
  (∀ k0_t1 : Fin (k0_t1_loop v5).trips, ∀ a, (k0_off2 i v5 k0_t1) a + S1x1.size a ≤ S148x28.size a) ∧
  ((k0_t2_loop v5).OK) ∧
  (∀ k0_t2 : Fin (k0_t2_loop v5).trips, ∀ a, (k0_off6 i v5 k0_t2) a + S1x1.size a ≤ S148x28.size a)
theorem k0_t1_ok : ∀ (i : grid0.Coords) (v5 : BitVec 32) (k0_hw1 : k0_chk1 i v5), (k0_t1_loop v5).OK := fun i v5 k0_hw1 => k0_hw1.1
theorem k0_off2_inb : ∀ (i : grid0.Coords) (v5 : BitVec 32) (k0_hw1 : k0_chk1 i v5) (k0_t1 : Fin (k0_t1_loop v5).trips), ∀ a, (k0_off2 i v5 k0_t1) a + S1x1.size a ≤ S148x28.size a := fun i v5 k0_hw1 k0_t1 => k0_hw1.2.1 k0_t1
theorem k0_t2_ok : ∀ (i : grid0.Coords) (v5 : BitVec 32) (k0_hw1 : k0_chk1 i v5), (k0_t2_loop v5).OK := fun i v5 k0_hw1 => k0_hw1.2.2.1
theorem k0_off6_inb : ∀ (i : grid0.Coords) (v5 : BitVec 32) (k0_hw1 : k0_chk1 i v5) (k0_t2 : Fin (k0_t2_loop v5).trips), ∀ a, (k0_off6 i v5 k0_t2) a + S1x1.size a ≤ S148x28.size a := fun i v5 k0_hw1 k0_t2 => k0_hw1.2.2.2 k0_t2

def k0_off7 (v21 : BitVec 32) : Fin 3 → Nat :=
  let v22 : Index := Scalar.indexCast v21
  let c0_8 : Index := 0#32
  let c0_9 : Index := 0#32
  ![v22.toNat, 0, 0]

def k0_off8 (v21 : BitVec 32) : Fin 1 → Nat :=
  let v26 : Index := Scalar.indexCast v21
  ![v26.toNat]

def k0_chk4 (v21 : BitVec 32) : Prop :=
  (∀ a, (k0_off7 v21) a + S1x128x128.size a ≤ S1243x128x128.size a) ∧
  (∀ a, (k0_off8 v21) a + S1.size a ≤ S1243.size a)
theorem k0_off7_inb : ∀ (v21 : BitVec 32) (k0_hw4 : k0_chk4 v21), ∀ a, (k0_off7 v21) a + S1x128x128.size a ≤ S1243x128x128.size a := fun v21 k0_hw4 => k0_hw4.1
theorem k0_off8_inb : ∀ (v21 : BitVec 32) (k0_hw4 : k0_chk4 v21), ∀ a, (k0_off8 v21) a + S1.size a ≤ S1243.size a := fun v21 k0_hw4 => k0_hw4.2

def k0_mult2 (v18 : BitVec 32) : BitVec 32 :=
  let c128_i32 : BitVec 32 := 128#32
  let v31 : BitVec 32 := Scalar.muli v18 c128_i32
  v31

def k0_off9 (v18 : BitVec 32) : Fin 2 → Nat :=
  let c0_10 : Index := 0#32
  let c128_i32 : BitVec 32 := 128#32
  let v31 : BitVec 32 := Scalar.muli v18 c128_i32
  let v32 : BitVec 32 := v31
  let v33 : Index := Scalar.indexCast v32
  ![0, v33.toNat]

def k0_chk5 (v18 : BitVec 32) : Prop :=
  (128 ∣ (k0_mult2 v18).toNat) ∧
  (∀ a, (k0_off9 v18) a + S1024x128.size a ≤ S1024x3584.size a)
theorem k0_mult2_dvd : ∀ (v18 : BitVec 32) (k0_hw5 : k0_chk5 v18), 128 ∣ (k0_mult2 v18).toNat := fun v18 k0_hw5 => k0_hw5.1
theorem k0_off9_inb : ∀ (v18 : BitVec 32) (k0_hw5 : k0_chk5 v18), ∀ a, (k0_off9 v18) a + S1024x128.size a ≤ S1024x3584.size a := fun v18 k0_hw5 => k0_hw5.2

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S1243 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x3584 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1243x128x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S1x1024x3584 : Shape := ⟨3, ![1, 1024, 3584]⟩
abbrev S29 : Shape := ⟨1, ![29]⟩
abbrev S1243 : Shape := ⟨1, ![1243]⟩
abbrev S1243x128x128 : Shape := ⟨3, ![1243, 128, 128]⟩
abbrev S1x1243 : Shape := ⟨2, ![1, 1243]⟩
abbrev S29x1 : Shape := ⟨2, ![29, 1]⟩
abbrev S29x1243 : Shape := ⟨2, ![29, 1243]⟩
abbrev S_ : Shape := ⟨0, ![]⟩
abbrev S1243x1x1 : Shape := ⟨3, ![1243, 1, 1]⟩
abbrev S28x128x148x128 : Shape := ⟨4, ![28, 128, 148, 128]⟩
abbrev S1243x1 : Shape := ⟨2, ![1243, 1]⟩
abbrev S1243x2 : Shape := ⟨2, ![1243, 2]⟩
abbrev S3584x18944 : Shape := ⟨2, ![3584, 18944]⟩
abbrev S1x1024x18944 : Shape := ⟨3, ![1, 1024, 18944]⟩
abbrev S1024x18944 : Shape := ⟨2, ![1024, 18944]⟩

abbrev nBuf : Space → Nat
  | .hbm => 42
  | .vmem => 3
  | .smem => 0
  | _ => 0

abbrev bufTy : (tb : Table) → Fin (tcTables nBuf tb) → BufTy
  | .hbm, ⟨0, _⟩ => ⟨S1x1024x3584, .bf16⟩
  | .hbm, ⟨1, _⟩ => ⟨S29, .i32⟩
  | .hbm, ⟨2, _⟩ => ⟨S1243, .i32⟩
  | .hbm, ⟨3, _⟩ => ⟨S1243x128x128, .fp8e4m3⟩
  | .hbm, ⟨4, _⟩ => ⟨S1243, .f32⟩
  | .hbm, ⟨5, _⟩ => ⟨S1243, .i32⟩
  | .hbm, ⟨6, _⟩ => ⟨S1x1243, .i32⟩
  | .hbm, ⟨7, _⟩ => ⟨S29x1, .i32⟩
  | .hbm, ⟨8, _⟩ => ⟨S29x1243, .i32⟩
  | .hbm, ⟨9, _⟩ => ⟨S29x1243, .i32⟩
  | .hbm, ⟨10, _⟩ => ⟨S29x1243, .i1⟩
  | .hbm, ⟨11, _⟩ => ⟨S29x1243, .i32⟩
  | .hbm, ⟨12, _⟩ => ⟨S_, .i32⟩
  | .hbm, ⟨13, _⟩ => ⟨S1243, .i32⟩
  | .hbm, ⟨14, _⟩ => ⟨S_, .i32⟩
  | .hbm, ⟨15, _⟩ => ⟨S1243, .i32⟩
  | .hbm, ⟨16, _⟩ => ⟨S1243, .i32⟩
  | .hbm, ⟨17, _⟩ => ⟨S1243x128x128, .bf16⟩
  | .hbm, ⟨18, _⟩ => ⟨S_, .bf16⟩
  | .hbm, ⟨19, _⟩ => ⟨S28x128x148x128, .bf16⟩
  | .hbm, ⟨20, _⟩ => ⟨S_, .i32⟩
  | .hbm, ⟨21, _⟩ => ⟨S1243, .i32⟩
  | .hbm, ⟨22, _⟩ => ⟨S1243, .i1⟩
  | .hbm, ⟨23, _⟩ => ⟨S_, .i32⟩
  | .hbm, ⟨24, _⟩ => ⟨S1243, .i32⟩
  | .hbm, ⟨25, _⟩ => ⟨S1243, .i32⟩
  | .hbm, ⟨26, _⟩ => ⟨S1243, .i32⟩
  | .hbm, ⟨27, _⟩ => ⟨S_, .i32⟩
  | .hbm, ⟨28, _⟩ => ⟨S1243, .i32⟩
  | .hbm, ⟨29, _⟩ => ⟨S1243, .i1⟩
  | .hbm, ⟨30, _⟩ => ⟨S_, .i32⟩
  | .hbm, ⟨31, _⟩ => ⟨S1243, .i32⟩
  | .hbm, ⟨32, _⟩ => ⟨S1243, .i32⟩
  | .hbm, ⟨33, _⟩ => ⟨S1243, .i32⟩
  | .hbm, ⟨34, _⟩ => ⟨S1243x1, .i32⟩
  | .hbm, ⟨35, _⟩ => ⟨S1243x1, .i32⟩
  | .hbm, ⟨36, _⟩ => ⟨S1243x2, .i32⟩
  | .hbm, ⟨37, _⟩ => ⟨S28x128x148x128, .bf16⟩
  | .hbm, ⟨38, _⟩ => ⟨S3584x18944, .bf16⟩
  | .hbm, ⟨39, _⟩ => ⟨S1x1024x18944, .f32⟩
  | .hbm, ⟨40, _⟩ => ⟨S1x1024x18944, .bf16⟩
  | .hbm, ⟨41, _⟩ => ⟨S1024x18944, .bf16⟩
  | .local _ .vmem, ⟨0, _⟩ => ⟨S1243x128x128, .fp8e4m3⟩
  | .local _ .vmem, ⟨1, _⟩ => ⟨S1243, .f32⟩
  | .local _ .vmem, ⟨2, _⟩ => ⟨S1243x128x128, .bf16⟩
  | _, _ => ⟨S1x1024x3584, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_call0_v0 : Ref sig .tc := ⟨.hbm, 6, rfl⟩
abbrev main_call0_call0_v1 : Ref sig .tc := ⟨.hbm, 7, rfl⟩
abbrev main_call0_call0_v2 : Ref sig .tc := ⟨.hbm, 8, rfl⟩
abbrev main_call0_call0_v3 : Ref sig .tc := ⟨.hbm, 9, rfl⟩
abbrev main_call0_call0_v4 : Ref sig .tc := ⟨.hbm, 10, rfl⟩
abbrev main_call0_call0_v5 : Ref sig .tc := ⟨.hbm, 11, rfl⟩
abbrev main_call0_call0_c : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_c_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c_2 : Ref sig .tc := ⟨.hbm, 27, rfl⟩
abbrev main_v11 : Ref sig .tc := ⟨.hbm, 28, rfl⟩
abbrev main_v12 : Ref sig .tc := ⟨.hbm, 29, rfl⟩
abbrev main_c_3 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S1243x128x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1243 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1243x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.WordsKernel.lean ====
/- The side conditions of the kernel's words: a count of at most 28 makes both counted loops legal (the first takes
   that many trips, the second takes none), a row block below 28 and an entry below 1243 keep every load in range. -/
module

public import proofs.«01_k».proof.Proof.Gen.Kernel
public import Idealize.ShloMosaic.Lib.Affine
public import Idealize.ShloMosaic.Lib.WordArith
public import Idealize.ShloMosaic.Lib.LoopRemainder

@[expose] public section

namespace Cert.Proof.Kernel

open Cert.Kernel
open Idealize.ShloMosaic

/-- A small word is not negative. -/
theorem toInt_small (v : BitVec 32) (h : v.toNat ≤ 1243) : v.toInt = v.toNat := by
  rw [BitVec.toInt_eq_toNat_of_lt]; omega

/-- The first loop takes as many trips as the count says. -/
theorem t1_trips (v5 : BitVec 32) (h : v5.toNat ≤ 28) : (k0_t1_loop v5).trips = v5.toNat := by
  have := toInt_small v5 (by omega)
  have r_n := Affine.word_range v5
  have h_n : Affine.IsInt v5 v5.toInt := Affine.word v5
  have h0 : Affine.IsInt (0#32) 0 := Affine.ofNat 0 (by omega)
  have h1 : Affine.IsInt (1#32) 1 := Affine.ofNat 1 (by omega)
  have h6 := Affine.subi (e := v5.toInt) h_n h0 (by omega)
  have h8 := Affine.divsi_one (e := v5.toInt) h6 h1 ⟨rfl, rfl⟩
  have h9 := Affine.muli (e := v5.toInt) h8 h1 (by omega)
  have h10 := Affine.addi (e := v5.toInt) h0 h9 (by omega)
  unfold Affine.IsInt at h10
  show Scf.trips _ _ _ = _
  rw [Scf.trips, h10]
  have e0 : (0#32).toInt = 0 := rfl
  have e1 : (1#32).toInt = 1 := rfl
  rw [e0, e1]; omega

/-- Where trip `k` of the first loop reads the tables: the block column's row, at `k`. -/
theorem off2_eq (i : grid0.Coords) (v5 : BitVec 32) (h : v5.toNat ≤ 28) (k : Fin (k0_t1_loop v5).trips) :
    k0_off2 i v5 k = ![(i 0).val, k.val] := by
  have hk : k.val < 28 := lt_of_lt_of_le k.isLt (le_of_eq_of_le (t1_trips v5 h) h)
  have hi : (i 0).val < 148 := (i 0).isLt
  have a : (BitVec.ofNat 32 (i 0).val).toNat = (i 0).val := by
    rw [BitVec.toNat_ofNat]; omega
  have b : (Scf.iv (0#32) (1#32) k.val).toNat = k.val := by
    simp only [Scf.iv, BitVec.zero_add, BitVec.mul_one, BitVec.toNat_ofNat]; omega
  show ![(BitVec.ofNat 32 (i 0).val).toNat, (Scf.iv (0#32) (1#32) k.val).toNat] = _
  rw [a, b]

/-- A count of at most 28 passes the body's first check. -/
theorem chk1_of (i : grid0.Coords) (v5 : BitVec 32) (h : v5.toNat ≤ 28) : k0_chk1 i v5 := by
  refine ⟨?_, ?_, Scf.rem_ok _ _, fun k => (Scf.rem_no_trip _ _ k).elim⟩
  · have := toInt_small v5 (by omega)
    have t : Scf.trips (k0_t1_loop v5).lb (k0_t1_loop v5).ub (k0_t1_loop v5).st = v5.toNat := t1_trips v5 h
    show Scf.OK _ _ _
    unfold Scf.OK
    rw [t]
    have e0 : ((k0_t1_loop v5).lb).toInt = 0 := rfl
    have e1 : ((k0_t1_loop v5).st).toInt = 1 := rfl
    rw [e0, e1]; omega
  · intro k
    have hk : k.val < 28 := lt_of_lt_of_le k.isLt (le_of_eq_of_le (t1_trips v5 h) h)
    have hi : (i 0).val < 148 := (i 0).isLt
    rw [off2_eq i v5 h]
    intro a; fin_cases a
    · show (i 0).val + 1 ≤ 148; omega
    · show k.val + 1 ≤ 28; omega

/-- Where the block of entry `v` begins. -/
theorem off3_eq (v : BitVec 32) : k0_off3 v = ![v.toNat, 0, 0] := rfl
/-- Where the scale of entry `v` is. -/
theorem off4_eq (v : BitVec 32) : k0_off4 v = ![v.toNat] := rfl

/-- An entry below 1243 passes the body's check of it. -/
theorem chk2_of (v : BitVec 32) (h : v.toNat < 1243) : k0_chk2 v := by
  refine ⟨?_, ?_⟩
  · rw [off3_eq]; intro a; fin_cases a
    · show v.toNat + 1 ≤ 1243; omega
    · show 0 + 128 ≤ 128; omega
    · show 0 + 128 ≤ 128; omega
  · rw [off4_eq]; intro a; fin_cases a
    show v.toNat + 1 ≤ 1243; omega

/-- Where the columns of row block `v` begin in the activations. -/
theorem off5_eq (v : BitVec 32) (h : v.toNat < 28) : k0_off5 v = ![0, v.toNat * 128] := by
  have a : (Scalar.muli v 128#32).toNat = v.toNat * 128 := by
    show (v * 128#32).toNat = _
    rw [BitVec.toNat_mul]
    have : (128#32).toNat = 128 := rfl
    rw [this]; omega
  show ![0, (Scalar.muli v 128#32).toNat] = _
  rw [a]

/-- A row block below 28 passes the body's check of it. -/
theorem chk3_of (v : BitVec 32) (h : v.toNat < 28) : k0_chk3 v := by
  have a : (k0_mult1 v).toNat = v.toNat * 128 := by
    show (v * 128#32).toNat = _
    rw [BitVec.toNat_mul]
    have : (128#32).toNat = 128 := rfl
    rw [this]; omega
  refine ⟨⟨v.toNat, by rw [a]; omega⟩, ?_⟩
  rw [off5_eq v h]; intro a; fin_cases a
  · show 0 + 1024 ≤ 1024; omega
  · show v.toNat * 128 + 128 ≤ 3584; omega

end Cert.Proof.Kernel

end
-- ==== Proof.BodyKernel.lean ====
/- The kernel's body at one grid point, on whole buffers: from the tables' words in range it leaves, in the output's
   block, the running sum of the block column's products, rounded. -/
module

public import proofs.«01_k».proof.Proof.Gen.Kernel.Skeleton
public import proofs.«01_k».proof.Proof.Gen.Kernel.Loops
public import proofs.«01_k».proof.Proof.Gen.Kernel.Launch
public import proofs.«01_k».proof.Proof.WordsKernel
public import Idealize.ShloMosaic.Lib.Pipeline.FrameBody
public import Idealize.ShloMosaic.Lib.Pipeline.Frame
public import Idealize.ShloMosaic.Lib.VecWindow
public import Idealize.ShloMosaic.Lib.ValueIdxCore
public import Idealize.ShloMosaic.Lib.Tactic

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2 ix3)

variable {F : FTy → Type} [FloatOps F]

local notation "𝕄" => MT nD τ sig Unit (Elt F) ℕ (UR sig nD τ) ℕ

/-- The algebra of the loop invariants. -/
abbrev UU (nD : Nat) (τ : Topo) : Type := UR sig nD τ
/-- No variants. -/
abbrev 𝒱₀ : Variants := Variants.none

/-- The word of table `T` for the block column `i` at position `k` (0 past the table). -/
def word (T : S148x28.Idx → BitVec 32) (i : grid0.Coords) (k : ℕ) : BitVec 32 :=
  if h : k < 28 then T (ix2 (n0 := 148) (n1 := 28) (i 0) ⟨k, h⟩) else 0#32

/-- The scale of entry `e` (the first one past the array). -/
def scaleOf (S : S1243.Idx → Elt F .f32) (e : BitVec 32) : Elt F .f32 :=
  if h : e.toNat < 1243 then S (ix1 (n := 1243) ⟨e.toNat, h⟩) else S (ix1 (n := 1243) ⟨0, by decide⟩)

/-- What one trip makes of the accumulator `a`: at row block `o` and entry `e`, when both are in range. -/
def trip (S : S1243.Idx → Elt F .f32) (X : Vec F S1024x3584 .bf16) (B : Vec F S1243x128x128 .fp8e4m3) (o e : BitVec 32)
    (a : Vec F S1024x128 .f32) : Vec F S1024x128 .f32 :=
  if h : k0_chk3 o ∧ k0_chk2 e then
    k0_pay2 (View.ld B (Rect.unit (s := S1243x128x128) (k0_off3 e) S1x128x128.size (k0_off3_inb e h.2))) (scaleOf S e)
      (View.ld X (Rect.unit (s := S1024x3584) (k0_off5 o) S1024x128.size (k0_off5_inb o h.1))) a
  else a

/-- The accumulator before trip `k` of block column `i`. -/
def accAt (O E : S148x28.Idx → BitVec 32) (S : S1243.Idx → Elt F .f32) (X : Vec F S1024x3584 .bf16)
    (B : Vec F S1243x128x128 .fp8e4m3) (i : grid0.Coords) : ℕ → Vec F S1024x128 .f32
  | 0 => k0_pay1
  | k + 1 => trip S X B (word O i k) (word E i k) (accAt O E S X B i k)

/-- The words of block column `i` are in range: the count is at most 28 and, at every position below it, the row block
    is below 28 and the entry below 1243. -/
def WordsOk (O E : S148x28.Idx → BitVec 32) (C : S148.Idx → BitVec 32) (i : grid0.Coords) : Prop :=
  (C (ix1 (n := 148) (i 0))).toNat ≤ 28 ∧
    ∀ k, k < (C (ix1 (n := 148) (i 0))).toNat → (word O i k).toNat < 28 ∧ (word E i k).toNat < 1243

section Reads

/-- The word a scalar load of a table takes at trip `k`. -/
theorem read_word (m : Memref sig .tc .smem S148x28 .i32) (f : m.view.ty.Contents (Elt F)) (i : grid0.Coords) (v5 : BitVec 32)
    (h5 : v5.toNat ≤ 28) (hw : k0_chk1 i v5) (k : Fin (k0_t1_loop v5).trips) (hn) :
    View.readAt (Elt F) m.view (Rect.unit (s := S148x28) (k0_off2 i v5 k) S1x1.size (k0_off2_inb i v5 hw k)).toLoadRect f
      (Shape.Idx.first hn) = word (m.view.read (Elt F) f) i k.val := by
  have hk : k.val < 28 := lt_of_lt_of_le k.isLt (le_of_eq_of_le (t1_trips v5 h5) h5)
  rw [View.readAt_apply, word, dif_pos hk]
  refine congrArg (m.view.read (Elt F) f) (funext fun a => Fin.ext ?_)
  have e := congrFun (off2_eq i v5 h5 k) a
  show k0_off2 i v5 k a + 1 * 0 = _
  rw [e]
  fin_cases a <;> rfl

/-- The count a scalar load takes at the grid point. -/
theorem read_cnt (m : Memref sig .tc .smem S148 .i32) (f : m.view.ty.Contents (Elt F)) (i : grid0.Coords) (hn) :
    View.readAt (Elt F) m.view (Rect.unit (s := S148) (k0_off1 i) S1.size (k0_off1_inb i)).toLoadRect f
      (Shape.Idx.first hn) = m.view.read (Elt F) f (ix1 (n := 148) (i 0)) := by
  rw [View.readAt_apply]
  refine congrArg (m.view.read (Elt F) f) (funext fun a => Fin.ext ?_)
  have hi : (i 0).val < 148 := (i 0).isLt
  fin_cases a
  show (BitVec.ofNat 32 (i 0).val).toNat + 1 * 0 = (i 0).val
  rw [BitVec.toNat_ofNat]; omega

/-- The scale a scalar load takes at entry `e`. -/
theorem read_scale (m : Memref sig .tc .smem S1243 .f32) (f : m.view.ty.Contents (Elt F)) (e : BitVec 32)
    (he : e.toNat < 1243) (hw : k0_chk2 e) (hn) :
    View.readAt (Elt F) m.view (Rect.unit (s := S1243) (k0_off4 e) S1.size (k0_off4_inb e hw)).toLoadRect f
      (Shape.Idx.first hn) = scaleOf (F := F) (m.view.read (Elt F) f) e := by
  rw [View.readAt_apply, scaleOf, dif_pos he]
  refine congrArg (m.view.read (Elt F) f) (funext fun a => Fin.ext ?_)
  fin_cases a
  show e.toNat + 1 * 0 = e.toNat
  omega

end Reads

/-- One trip's store, the words of the trip named by any terms that equal the tables'. -/
theorem trip_pay (m8 : Memref sig .tc .vmem S1024x128 .f32) (m6 : Memref sig .tc .vmem S1243x128x128 .fp8e4m3)
    (m5 : Memref sig .tc .vmem S1024x3584 .bf16) (S : S1243.Idx → Elt F .f32)
    (f5 : m5.view.ty.Contents (Elt F)) (f6 : m6.view.ty.Contents (Elt F)) (g : m8.view.ty.Contents (Elt F))
    (o e o' e' : BitVec 32) (ho : o = o') (he : e = e') (h3 : k0_chk3 o) (h2 : k0_chk2 e) (s : Elt F .f32)
    (hs : s = scaleOf (F := F) S e') (a : Vec F S1024x128 .f32) (ha : m8.view.read (Elt F) g = a) :
    m8.view.read (Elt F) (m8.view.writes (Elt F) g [⟨Rect.unit ![0, 0] S1024x128.size inb_S1024x128_S1024x128_0_0,
      k0_pay2 (View.readAt (Elt F) m6.view (Rect.unit (s := S1243x128x128) (k0_off3 e) S1x128x128.size (k0_off3_inb e h2)).toLoadRect f6) s
        (View.readAt (Elt F) m5.view (Rect.unit (s := S1024x3584) (k0_off5 o) S1024x128.size (k0_off5_inb o h3)).toLoadRect f5)
        (View.readAt (Elt F) m8.view (Rect.unit (s := S1024x128) ![0, 0] S1024x128.size inb_S1024x128_S1024x128_0_0).toLoadRect g)⟩])
      = trip S (m5.view.read (Elt F) f5) (m6.view.read (Elt F) f6) o' e' a := by
  subst ho he hs ha
  rw [trip, dif_pos ⟨h3, h2⟩, View.read_writes_full, View.readAt_full]
  rfl

section LoopT1

variable (c : Dev nD) (q : PosShare TreeShare)

/-- The invariant of the loop over the block column's entries: the inputs as they were, the accumulator at the running
    sum of the trips gone by. -/
@[sl_loop, instance_reducible] noncomputable def loopInv_k0_t1 (i : grid0.Coords) (arg1 : Memref sig .tc .smem S148x28 .i32) (harg1 : arg1.IsWhole) (arg2 : Memref sig .tc .smem S148x28 .i32) (harg2 : arg2.IsWhole) (arg3 : Memref sig .tc .smem S148 .i32) (harg3 : arg3.IsWhole) (arg4 : Memref sig .tc .smem S1243 .f32) (harg4 : arg4.IsWhole) (arg5 : Memref sig .tc .vmem S1024x3584 .bf16) (harg5 : arg5.IsWhole) (arg6 : Memref sig .tc .vmem S1243x128x128 .fp8e4m3) (harg6 : arg6.IsWhole) (arg7 : Memref sig .tc .vmem S1024x128 .bf16) (harg7 : arg7.IsWhole) (arg8 : Memref sig .tc .vmem S1024x128 .f32) (harg8 : arg8.IsWhole) (v5 : Elt F .i32) (k0_hw1 : k0_chk1 i v5) (init : BitVec 32)
    (f1 : Buf (Elt F) (arg1.view.loc (c : Thread nD τ))) (f2 : Buf (Elt F) (arg2.view.loc (c : Thread nD τ)))
    (f4 : Buf (Elt F) (arg4.view.loc (c : Thread nD τ))) (f5 : Buf (Elt F) (arg5.view.loc (c : Thread nD τ)))
    (f6 : Buf (Elt F) (arg6.view.loc (c : Thread nD τ)))
    (h5 : v5.toNat ≤ 28)
    (hok : ∀ k, k < v5.toNat → (word (arg1.view.read (Elt F) f1) i k).toNat < 28 ∧ (word (arg2.view.read (Elt F) f2) i k).toNat < 1243) :
    LoopInvTy_k0_t1 (F := F) Unit ℕ (UU nD τ) ℕ 𝒱₀ c none Set.univ i arg1 harg1 arg2 harg2 arg3 harg3 arg4 harg4 arg5 harg5 arg6 harg6 arg7 harg7 arg8 harg8 v5 k0_hw1 init where
  inv := fun k acc => iprop(((arg1.view.loc (c : Thread nD τ)) ↦{q} f1) ∗ ((arg2.view.loc (c : Thread nD τ)) ↦{q} f2)
    ∗ ((arg4.view.loc (c : Thread nD τ)) ↦[arg4.view.set]{fullShare} f4) ∗ ((arg5.view.loc (c : Thread nD τ)) ↦[arg5.view.set]{fullShare} f5)
    ∗ ((arg6.view.loc (c : Thread nD τ)) ↦[arg6.view.set]{fullShare} f6)
    ∗ ∃ g, ((arg8.view.loc (c : Thread nD τ)) ↦{fullShare} g) ∗
      ⌜arg8.view.read (Elt F) g = accAt (arg1.view.read (Elt F) f1) (arg2.view.read (Elt F) f2) (arg4.view.read (Elt F) f4)
        (arg5.view.read (Elt F) f5) (arg6.view.read (Elt F) f6) i k⌝)
  step := fun k acc => by
    have hk : k.val < v5.toNat := lt_of_lt_of_eq k.isLt (t1_trips v5 h5)
    have w := hok k.val hk
    unfold k0_t1_body
    iintro ⟨H1, H2, H4, H5, H6, ⟨%g, H8, %hg⟩⟩
    have c3 : k0_chk3 (View.readAt (Elt F) arg1.view (Rect.unit (s := S148x28) (k0_off2 i v5 k) S1x1.size (k0_off2_inb i v5 k0_hw1 k)).toLoadRect f1
      (Shape.Idx.first (show 0 < S1x1.numel from by decide))) := by
      rw [read_word arg1 f1 i v5 h5 k0_hw1 k]; exact chk3_of _ w.1
    have c2 : k0_chk2 (View.readAt (Elt F) arg2.view (Rect.unit (s := S148x28) (k0_off2 i v5 k) S1x1.size (k0_off2_inb i v5 k0_hw1 k)).toLoadRect f2
      (Shape.Idx.first (show 0 < S1x1.numel from by decide))) := by
      rw [read_word arg2 f2 i v5 h5 k0_hw1 k]; exact chk2_of _ w.2
    sl_exec
    sl_step
    isplitl [H1]; · iexact H1
    isplitl [H2]; · iexact H2
    isplitl [H4]; · iexact H4
    isplitl [H5]; · iexact H5
    isplitl [H6]; · iexact H6
    iexists _
    isplitl [H8]; · iexact H8
    ipureintro
    refine trip_pay arg8 arg6 arg5 _ f5 f6 g _ _ _ _ ?_ ?_ c3 c2 _ ?_ _ hg
    · exact read_word arg1 f1 i v5 h5 k0_hw1 k _
    · exact read_word arg2 f2 i v5 h5 k0_hw1 k _
    · refine (read_scale arg4 f4 _ ?_ c2 _).trans ?_
      · rw [read_word arg2 f2 i v5 h5 k0_hw1 k]; exact w.2
      · rw [read_word arg2 f2 i v5 h5 k0_hw1 k]

end LoopT1

section Kernel

variable (c : Dev nD)

/-- The body at grid point `i`, on whole buffers, from words in range: the inputs are left as they were, the output's
    block is the whole running sum of the block column, rounded. -/
theorem sound_kernel (q : PosShare TreeShare) (i : grid0.Coords) (arg1 : Memref sig .tc .smem S148x28 .i32) (harg1 : arg1.IsWhole) (arg2 : Memref sig .tc .smem S148x28 .i32) (harg2 : arg2.IsWhole) (arg3 : Memref sig .tc .smem S148 .i32) (harg3 : arg3.IsWhole) (arg4 : Memref sig .tc .smem S1243 .f32) (harg4 : arg4.IsWhole) (arg5 : Memref sig .tc .vmem S1024x3584 .bf16) (harg5 : arg5.IsWhole) (arg6 : Memref sig .tc .vmem S1243x128x128 .fp8e4m3) (harg6 : arg6.IsWhole) (arg7 : Memref sig .tc .vmem S1024x128 .bf16) (harg7 : arg7.IsWhole) (arg8 : Memref sig .tc .vmem S1024x128 .f32) (harg8 : arg8.IsWhole)
    (f1 : Buf (Elt F) (arg1.view.loc (c : Thread nD τ))) (f2 : Buf (Elt F) (arg2.view.loc (c : Thread nD τ)))
    (f3 : Buf (Elt F) (arg3.view.loc (c : Thread nD τ))) (f8 : Buf (Elt F) (arg8.view.loc (c : Thread nD τ)))
    (S : Vec F S1243 .f32) (X : Vec F S1024x3584 .bf16) (B : Vec F S1243x128x128 .fp8e4m3)
    (hok : WordsOk (arg1.view.read (Elt F) f1) (arg2.view.read (Elt F) f2) (arg3.view.read (Elt F) f3) i)
    (K : PUnit → sProp 𝕄) :
    iprop(((arg1.view.loc (c : Thread nD τ)) ↦{q} f1) ∗ ((arg2.view.loc (c : Thread nD τ)) ↦{q} f2) ∗ ((arg3.view.loc (c : Thread nD τ)) ↦{q} f3)
        ∗ owns (c : Thread nD τ) arg4 fullShare S ∗ owns (c : Thread nD τ) arg5 fullShare X ∗ owns (c : Thread nD τ) arg6 fullShare B
        ∗ (∃ d, owns (c : Thread nD τ) arg7 fullShare d) ∗ ((arg8.view.loc (c : Thread nD τ)) ↦{fullShare} f8)
        ∗ (iprop(((arg1.view.loc (c : Thread nD τ)) ↦{q} f1) ∗ ((arg2.view.loc (c : Thread nD τ)) ↦{q} f2) ∗ ((arg3.view.loc (c : Thread nD τ)) ↦{q} f3)
        ∗ owns (c : Thread nD τ) arg4 fullShare S ∗ owns (c : Thread nD τ) arg5 fullShare X ∗ owns (c : Thread nD τ) arg6 fullShare B
        ∗ owns (c : Thread nD τ) arg7 fullShare (k0_pay4 (accAt (arg1.view.read (Elt F) f1) (arg2.view.read (Elt F) f2) S X B i
            (arg3.view.read (Elt F) f3 (ix1 (n := 148) (i 0))).toNat))
        ∗ (∃ g8, ((arg8.view.loc (c : Thread nD τ)) ↦{fullShare} g8))) -∗ K ⟨⟩))
      ⊢ wp frame (wpE (defs₀ (F := F)) 𝒱₀ c none) Set.univ
        (cc0__body i arg1 harg1 arg2 harg2 arg3 harg3 arg4 harg4 arg5 harg5 arg6 harg6 arg7 harg7 arg8 harg8) K := by
  obtain ⟨h5, hw⟩ := hok
  simp only [cc0__body_eq_skeleton]; unfold cc0__body_skel
  unfold owns
  iintro ⟨H1, H2, H3, ⟨%f4, %hf4, H4⟩, ⟨%f5, %hf5, H5⟩, ⟨%f6, %hf6, H6⟩, ⟨%d7, %f7, -, H7⟩, H8, Hk⟩
  subst hf4 hf5 hf6
  have hcnt := read_cnt arg3 f3 i (show 0 < S1.numel from by decide)
  have c1 : k0_chk1 i (View.readAt (Elt F) arg3.view (Rect.unit (s := S148) (k0_off1 i) S1.size (k0_off1_inb i)).toLoadRect f3
      (Shape.Idx.first (show 0 < S1.numel from by decide))) := by rw [hcnt]; exact chk1_of i _ h5
  have h5' := h5; have hw' := hw
  rw [← hcnt] at h5' hw'
  have h0 : View.read (Elt F) arg8.view (arg8.view.writes (Elt F) arg8.view.junk
      [⟨Rect.unit ![0, 0] S1024x128.size inb_S1024x128_S1024x128_0_0, k0_pay1 (F := F)⟩])
      = accAt (View.read (Elt F) arg1.view f1) (View.read (Elt F) arg2.view f2) (View.read (Elt F) arg4.view f4)
        (View.read (Elt F) arg5.view f5) (View.read (Elt F) arg6.view f6) i 0 := View.read_writes_full _ _ _ _ _
  sl_exec
  sl_step
  iapply Hk
  isplitl [H1]; · iexact H1
  isplitl [H2]; · iexact H2
  isplitl [H3]; · iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    rw [View.read_writes_full, View.readAt_full, hL6]
    exact congrArg (fun n => k0_pay4 (accAt (View.read (Elt F) arg1.view f1) (View.read (Elt F) arg2.view f2)
      (View.read (Elt F) arg4.view f4) (View.read (Elt F) arg5.view f5) (View.read (Elt F) arg6.view f6) i n))
      ((t1_trips _ h5').trans (congrArg BitVec.toNat hcnt))
  iexists _; iexact H8

end Kernel

end Cert.Proof.Kernel

end
-- ==== Proof.RunKernel.lean ====
/- The run of the whole program: the host lines that build the tables, the pipeline over the block columns by the body's
   triple, and what every buffer holds at the end, given that the tables' words are in range. -/
module

public import proofs.«01_k».proof.Proof.BodyKernel
public import Idealize.ShloMosaic.Lib.Claim
public import Idealize.ShloMosaic.Lib.Ring
public import Idealize.ShloMosaic.Lib.WordCmp

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix1 ix2 ix3)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines before the region -/

/-- Core `c`'s buffers when the region is entered: after the host lines. -/
abbrev V0 (c : Dev nD) : Valuation τ sig (Elt F) :=
  StableHlo.after (List.flatten [hostOps0, hostOps0_1, hostOps0_2, hostOps0_3, hostOps0_4, hostOps0_5]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor

set_option maxHeartbeats 800000 in
/-- The program is its host lines, then the region. -/
theorem hmain : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4, hostOps0_5]
    (by simp only [List.Forall]; exact ⟨hostOps0_sub, hostOps0_1_sub, hostOps0_2_sub, hostOps0_3_sub, hostOps0_4_sub, hostOps0_5_sub⟩)
    (by simp only [List.Forall]; exact ⟨hostOps0_fresh, hostOps0_1_fresh, hostOps0_2_fresh, hostOps0_3_fresh, hostOps0_4_fresh, hostOps0_5_fresh⟩)
    main_chain

/-- No host line writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.TRef.nullary, StableHlo.TRef.unary, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.TRef.nullary, StableHlo.TRef.unary, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.TRef.nullary, StableHlo.TRef.unary, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.TRef.nullary, StableHlo.TRef.unary, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.TRef.nullary, StableHlo.TRef.unary, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The tables and the windows' blocks -/

/-- The tables' contents when the region is entered. -/
def adm : (p : Fin 1) → (pcfgs (F := F) p).Adm := fun _ => ⟨fun k => V m 0 (pre0.ref k), trivial⟩

/-- The pipeline at those contents. -/
abbrev cfgm : Pipeline.Cfg sig Λ₀ := Pipeline.pin pcfgs (adm m) 0

/-- Window `w`'s block at point `t`, read off its array as the region finds it. -/
def iblk (c : Dev nD) (w : Fin (cfgm m).W) (t : Fin (cfgm m).N) : (((cfgm m).win w).xblock ((cfgm m).grid.coords t)).Idx → Elt F ((cfgm m).win w).elt :=
  (((cfgm m).win w).blk t).view.read (Elt F) (V m c (Pipeline.arrRef spec0 w))

/-- The words in range, on every core and at every grid point. -/
def TablesOk : Prop := ∀ (c : Dev nD) (i : grid0.Coords), WordsOk (V m c main_v19) (V m c main_v20) (V m c main_v24) i

/-- What the body leaves in the output's block at point `t`. -/
def outBlk (c : Dev nD) (t : Fin (cfgm m).N) : Vec F S1024x128 .bf16 :=
  k0_pay4 (accAt (V m c main_v19) (V m c main_v20) (iblk m c 0 t) (iblk m c 1 t) (iblk m c 2 t) (grid0.coords t)
    (V m c main_v24 (ix1 (n := 148) (grid0.coords t 0))).toNat)

/-! ## The pipeline's proof data -/

/-- The arrays as the region finds them, each input's block left in place, the output's at `outBlk`. -/
def dats (_ : Fin 1) (c : Dev nD) : Dat τ (Elt F) Unit ℕ (UR sig nD τ) ℕ (cfgm m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlk m c t
  Φ _ := iprop(Pipeline.ΦA spec0 c ∗ Pipeline.ΦT pre0 ((adm m) 0).1 c)
  q _ := fullShare
  owed _ := 0

theorem A_eq (c : Dev nD) (w : Fin (cfgm m).W) : (dats m 0 c).A w = V m c (Pipeline.arrRef spec0 w) := by
  dsimp only [dats]
theorem after0_0 (c : Dev nD) (t : Fin (cfgm m).N) : (dats m 0 c).after 0 t = iblk m c 0 t := rfl
theorem after0_1 (c : Dev nD) (t : Fin (cfgm m).N) : (dats m 0 c).after 1 t = iblk m c 1 t := rfl
theorem after0_2 (c : Dev nD) (t : Fin (cfgm m).N) : (dats m 0 c).after 2 t = iblk m c 2 t := rfl
theorem after0_3 (c : Dev nD) (t : Fin (cfgm m).N) : (dats m 0 c).after 3 t = outBlk m c t := rfl

/-- Input 0's staging buffer holds its block at every point. -/
theorem before0_0 (c : Dev nD) (t : Fin (cfgm m).N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
/-- Input 1's staging buffer holds its block at every point. -/
theorem before0_1 (c : Dev nD) (t : Fin (cfgm m).N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
/-- Input 2's staging buffer holds its block at every point. -/
theorem before0_2 (c : Dev nD) (t : Fin (cfgm m).N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)

/-! ## The body obligation -/

/-- The current staging memref of window `w` at point `t`. -/
abbrev stg (w : Fin (cfgm m).W) (t : Fin (cfgm m).N) := ((cfgm m).win w).stage ((cfgm m).slots t w)

/-- The body at point `t`, on what the pipeline calls it with. -/
abbrev bodyAt (t : Fin (cfgm m).N) : Prog (TpuEff nD τ sig (Elt F) Λ₀ .tc) PUnit :=
  cc0__body (grid0.coords t) (Memref.whole main_v19) (Memref.isWhole_whole _) (Memref.whole main_v20) (Memref.isWhole_whole _) (Memref.whole main_v24) (Memref.isWhole_whole _)
    (spec0_0.stage ((cfgm m).slots t 0)) (hstage0_0 (((cfgm m).slots t 0).cast nbuf0_0))
    (spec0_1.stage ((cfgm m).slots t 1)) (hstage0_1 (((cfgm m).slots t 1).cast nbuf0_1))
    (spec0_2.stage ((cfgm m).slots t 2)) (hstage0_2 (((cfgm m).slots t 2).cast nbuf0_2))
    (spec0_3.stage ((cfgm m).slots t 3)) (hstage0_3 (((cfgm m).slots t 3).cast nbuf0_3))
    (Memref.whole cc0_scratch0) (Memref.isWhole_whole _)

/-- What the body is called with at point `t`, -/
def bodyPre (c : Dev nD) (t : Fin (cfgm m).N) : sProp 𝕄 :=
  iprop((dats m 0 c).Φ t.castSucc ∗ (dats m 0 c).owesAt () t.castSucc
    ∗ (∃ d, owns (c : Thread nD τ) (stg m 0 t) fullShare ((dats m 0 c).before 0 t d))
    ∗ (∃ d, owns (c : Thread nD τ) (stg m 1 t) fullShare ((dats m 0 c).before 1 t d))
    ∗ (∃ d, owns (c : Thread nD τ) (stg m 2 t) fullShare ((dats m 0 c).before 2 t d))
    ∗ (∃ d, owns (c : Thread nD τ) (stg m 3 t) fullShare ((dats m 0 c).before 3 t d)))

/-- and what it returns. -/
def bodyPost (c : Dev nD) (t : Fin (cfgm m).N) : sProp 𝕄 :=
  iprop((dats m 0 c).Φ t.succ ∗ (dats m 0 c).owesAt () t.succ
    ∗ owns (c : Thread nD τ) (stg m 0 t) fullShare ((dats m 0 c).after 0 t)
    ∗ owns (c : Thread nD τ) (stg m 1 t) fullShare ((dats m 0 c).after 1 t)
    ∗ owns (c : Thread nD τ) (stg m 2 t) fullShare ((dats m 0 c).after 2 t)
    ∗ owns (c : Thread nD τ) (stg m 3 t) fullShare ((dats m 0 c).after 3 t))

/-- The three tables, one by one. -/
theorem bigSep_T {M : Type} [URA M] (Φ : Fin 3 → sProp M) : bigSep Finset.univ Φ = iprop(Φ (0 : Fin 3) ∗ Φ (1 : Fin 3) ∗ Φ (2 : Fin 3)) :=
  bigSep_univ_eq_bigSepL [(0 : Fin 3), (1 : Fin 3), (2 : Fin 3)] (by decide) (by decide) Φ

/-- Any contents of the tables' buffers, one by one. -/
theorem tables_any (c : Dev nD) (W : (b : Ref sig .tc) → Buf (Elt F) ((c : Thread nD τ).loc b)) :
    (Pipeline.ΦT pre0 (fun k => W (pre0.ref k)) c : sProp 𝕄)
    = iprop((((Memref.whole main_v19).view.loc (c : Thread nD τ)) ↦{fullShare.right} W main_v19)
      ∗ (((Memref.whole main_v20).view.loc (c : Thread nD τ)) ↦{fullShare.right} W main_v20)
      ∗ (((Memref.whole main_v24).view.loc (c : Thread nD τ)) ↦{fullShare.right} W main_v24)) := by
  unfold Pipeline.ΦT Pipeline.prefHeld
  exact bigSep_T _

/-- The tables as the body holds them: half of each, at its contents. -/
theorem tables_eq (c : Dev nD) : (Pipeline.ΦT pre0 ((adm m) 0).1 c : sProp 𝕄)
    = iprop((((Memref.whole main_v19).view.loc (c : Thread nD τ)) ↦{fullShare.right} V m c main_v19)
      ∗ (((Memref.whole main_v20).view.loc (c : Thread nD τ)) ↦{fullShare.right} V m c main_v20)
      ∗ (((Memref.whole main_v24).view.loc (c : Thread nD τ)) ↦{fullShare.right} V m c main_v24)) := by
  obtain rfl : c = 0 := Subsingleton.elim _ _
  exact tables_any 0 (V m 0)

/-- The scratch accumulator at some contents, and the core's register. -/
theorem scratch_eq (c : Dev nD) : (Pipeline.ΦA spec0 c : sProp 𝕄)
    = iprop((∃ f, ((Memref.whole cc0_scratch0).view.loc (c : Thread nD τ)) ↦{fullShare} f) ∗ ∃ r, prngReg c r) := by
  unfold Pipeline.ΦA
  rw [scopedRest0_eq]

set_option maxHeartbeats 1600000 in
/-- The body at any point. -/
theorem sound_body (hT : TablesOk m) (c : Dev nD) (t : Fin (cfgm m).N) :
    bodyPre m c t ⊢ wp frame (wpE (defs₀ (F := F)) 𝒱₀ c none) Set.univ (bodyAt m t) (fun _ => bodyPost m c t) := by
  unfold bodyPre bodyPost bodyAt
  simp only [before0_0, before0_1, before0_2]
  rw [show (dats m 0 c).Φ t.succ = iprop(Pipeline.ΦA spec0 c ∗ Pipeline.ΦT pre0 ((adm m) 0).1 c) from rfl,
    show (dats m 0 c).Φ t.castSucc = iprop(Pipeline.ΦA spec0 c ∗ Pipeline.ΦT pre0 ((adm m) 0).1 c) from rfl,
    show (dats m 0 c).owesAt () t.succ = (dats m 0 c).owesAt () t.castSucc from rfl,
    after0_0, after0_1, after0_2, after0_3, tables_eq, scratch_eq]
  iintro ⟨⟨⟨⟨%f8, H8⟩, Hr⟩, HT1, HT2, HT3⟩, Ho, ⟨%d0, H0⟩, ⟨%d1, H1⟩, ⟨%d2, H2⟩, ⟨%d3, H3⟩⟩
  iapply (sound_kernel c fullShare.right (grid0.coords t) (Memref.whole main_v19) (Memref.isWhole_whole _) (Memref.whole main_v20) (Memref.isWhole_whole _) (Memref.whole main_v24) (Memref.isWhole_whole _)
    (spec0_0.stage ((cfgm m).slots t 0)) (hstage0_0 (((cfgm m).slots t 0).cast nbuf0_0))
    (spec0_1.stage ((cfgm m).slots t 1)) (hstage0_1 (((cfgm m).slots t 1).cast nbuf0_1))
    (spec0_2.stage ((cfgm m).slots t 2)) (hstage0_2 (((cfgm m).slots t 2).cast nbuf0_2))
    (spec0_3.stage ((cfgm m).slots t 3)) (hstage0_3 (((cfgm m).slots t 3).cast nbuf0_3))
    (Memref.whole cc0_scratch0) (Memref.isWhole_whole _) (V m c main_v19) (V m c main_v20) (V m c main_v24) f8
    (iblk m c 0 t) (iblk m c 1 t) (iblk m c 2 t) (hT c (grid0.coords t)) _)
  isplitl [HT1]; · iexact HT1
  isplitl [HT2]; · iexact HT2
  isplitl [HT3]; · iexact HT3
  isplitl [H0]; · iexact H0
  isplitl [H1]; · iexact H1
  isplitl [H2]; · iexact H2
  isplitl [H3]; · iexists _; iexact H3
  isplitl [H8]; · iexact H8
  iintro ⟨HT1, HT2, HT3, H0, H1, H2, H3, H8⟩
  isplitl [H8 Hr HT1 HT2 HT3]
  · isplitl [H8 Hr]
    · isplitl [H8]; · iexact H8
      iexact Hr
    isplitl [HT1]; · iexact HT1
    isplitl [HT2]; · iexact HT2
    iexact HT3
  isplitl [Ho]; · iexact Ho
  isplitl [H0]; · iexact H0
  isplitl [H1]; · iexact H1
  isplitl [H2]; · iexact H2
  iexact H3

/-- The body table's row at point `t`'s slots. -/
theorem defs₀_row (t : Fin (cfgm m).N) :
    defs₀ (F := F) .tc (cfgm m).body ((cfgm m).bodyArgs t ((cfgm m).slots t)) = bodyAt m t := by
  unfold defs₀; rw [Defs.onTc_tc]

/-- The library's body obligation, at every point. -/
theorem body_obligation (hT : TablesOk m) (c : Dev nD) : BodyObligation (dats (F := F) m 0 c) (defs₀ (F := F)) 𝒱₀ () Set.univ := fun t => by
  rw [bigSep_W0, bigSep_W0, defs₀_row]
  exact triple_restated (sound_body m hT c t) rfl .rfl fun _ => .rfl

/-! ## The run -/

set_option backward.isDefEq.respectTransparency.types false in
set_option maxHeartbeats 800000 in
/-- The launch: every array at what the pipeline leaves, every other buffer as the host lines left it, every counter at zero. -/
theorem run_main (hT : TablesOk m) : θ_run defs (onTc (τ := τ) (main (F := F))) (s₀ m ρ)
    (fun r => Pipeline.FramePost (Pipeline.pin pcfgs (adm m)) (dats m) 0 (V m) r ∧ r.2.sem = fun _ => 0) :=
  Pipeline.θ_run_frameP (Q' := _) pcfgs (adm m) (dats m) (0 : Fin 1) launch0 defs₀ 𝒱₀ m ρ main
    (hbody := fun c => (body_obligation m hT c).loose) (hshare := fun c => (dats m 0 c).share_full fun _ => rfl)
    (howed := fun _ _ => rfl) (V := V m) (hmain := hmain m) (hA := A_eq m)
    (hpf := fun c k => by obtain rfl : c = 0 := Subsingleton.elim _ _; rfl) (hΦ := fun _ _ => rfl)

/-- The arguments at the end of a run are as they were. -/
theorem args_of (r : PUnit × MemSt nD τ sig (Elt F)) (h : Pipeline.FramePost (Pipeline.pin pcfgs (adm m)) (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨(((h c).2 main_arg0 (Pipeline.mem_restRefs_of main_arg0 (by decide) (show ∀ w : Fin 4, (spec0 w).arr.view.ref ≠ main_arg0 from by decide))).trans (V_main_arg0 m c)),
    (((h c).2 main_arg1 (Pipeline.mem_restRefs_of main_arg1 (by decide) (show ∀ w : Fin 4, (spec0 w).arr.view.ref ≠ main_arg1 from by decide))).trans (V_main_arg1 m c)),
    (((h c).2 main_arg2 (Pipeline.mem_restRefs_of main_arg2 (by decide) (show ∀ w : Fin 4, (spec0 w).arr.view.ref ≠ main_arg2 from by decide))).trans (V_main_arg2 m c)),
    ((h c).1 2).trans (((dats m 0 c).arrAt_in 2 rfl _).trans ((A_eq m c 2).trans (V_main_arg3 m c))),
    ((h c).1 0).trans (((dats m 0 c).arrAt_in 0 rfl _).trans ((A_eq m c 0).trans (V_main_arg4 m c)))⟩

/-- The frame claim, given the tables' words in range. -/
theorem frame_of (hT : TablesOk m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun r h => ⟨fun c => args_of m r h.1 c, h.2⟩) (run_main m ρ hT)

end Cert.Proof.Kernel

end
-- ==== Proof.TablesKernel.lean ====
/- What the host lines make of the two index arguments: the table of each block column's entries, its rows' sorting order,
   the entries in that order and their number. -/
module

public import proofs.«01_k».proof.Proof.Gen.Kernel
public import Idealize.ShloMosaic.Lib.ValueIdxCore

@[expose] public section

noncomputable section

namespace Cert.Proof.Kernel

open Cert.Kernel Cert.Kernel.Gen
open Idealize.ShloMosaic
open Idealize.ShloMosaic.ValueIdx (ix1 ix2 ix3)

/-- A word in every place of a vector of entries. -/
abbrev fill1243 (w : BitVec 32) : IVec S1243 32 := broadcastInDim S1243 ![] bcast_S_S1243 (constantI S_ 32 w)
/-- A word in every place of a table. -/
abbrev fillT (w : BitVec 32) : IVec S148x28 32 := broadcastInDim S148x28 ![] bcast_S_S148x28 (constantI S_ 32 w)

/-- Each entry's row block: the number of row starts at or below it, less one. -/
def rowOf (a1 : IVec S29 32) : IVec S1243 32 :=
  subi (Host.reduce IntOp.addi (extui 32 (cmpi .sle
      (broadcastInDim S29x1243 ![0, 1] bcast_S29x1_S29x1243_0_1 (broadcastInDim S29x1 ![0] bcast_S29_S29x1_0 a1))
      (broadcastInDim S29x1243 ![0, 1] bcast_S1x1243_S29x1243_0_1 (broadcastInDim S1x1243 ![1] bcast_S1243_S1x1243_1 (iotaInDim S1243 32 0)))) natLt_1_32)
    (constantI S_ 32 0#32) reducesTo_S29x1243_S1243_d0 h_S_) (fill1243 1#32)

/-- An index word, `n` added when it is negative. -/
def wrap (n : BitVec 32) (x : IVec S1243 32) : IVec S1243 32 := select (cmpi .slt x (fill1243 0#32)) (addi x (fill1243 n)) x

/-- Each entry's place in the table: its column and row block. -/
def places (a1 : IVec S29 32) (a2 : IVec S1243 32) : IVec S1243x2 32 :=
  concatenate S1243x2 1 [⟨S1243x1, broadcastInDim S1243x1 ![0] bcast_S1243_S1243x1_0 (wrap 148#32 a2)⟩,
    ⟨S1243x1, broadcastInDim S1243x1 ![0] bcast_S1243_S1243x1_0 (wrap 28#32 (rowOf a1))⟩] concatenates_S1243x1_S1243x1_S1243x2_d1

/-- The table of entries: at (column, row block) the last entry placed there, 1243 where there is none. -/
def dense (a1 : IVec S29 32) (a2 : IVec S1243 32) : IVec S148x28 32 :=
  Host.scatter scatter_S148x28_S1243x2_S1243_n_01_01_1 (fun _ b => b) (fillT 1243#32) (places a1 a2) (iotaInDim S1243 32 0)

/-- Each row's sorting order. -/
def order (D : IVec S148x28 32) : IVec S148x28 32 := (Host.sort2 S148x28 1 comparator_i32_i32_d1 D (iotaInDim S148x28 32 1)).2

/-- The positions at which the sorted entries are taken. -/
def takeAt (O : IVec S148x28 32) : IVec S148x28x1 32 :=
  shapeCast S148x28x1 (select (cmpi .slt O (fillT 0#32)) (addi O (fillT 28#32)) O) shapeCasts_S148x28_S148x28x1

/-- The entries in sorting order. -/
def ents (D O : IVec S148x28 32) : IVec S148x28 32 :=
  select (Host.reduce IntOp.andi (andi (cmpi .sge (takeAt O) (broadcastInDim S148x28x1 ![] bcast_S_S148x28x1 (constantI S_ 32 0#32)))
      (cmpi .sle (takeAt O) (broadcastInDim S148x28x1 ![0, 1, 2] bcast_S1x1x1_S148x28x1_0_1_2 (broadcastInDim S1x1x1 ![2] bcast_S1_S1x1x1_2 (constantI S1 32 27#32)))))
      (constantI S_ 1 1#1) reducesTo_S148x28x1_S148x28_d2 h_S_)
    (Host.gather gather_S148x28_S148x28x1_S148x28_n_1_0_0_1_2_11 D (takeAt O)) (fillT 2147483648#32)

/-- How many entries each block column has. -/
def cnts (D : IVec S148x28 32) : IVec S148 32 :=
  Host.reduce IntOp.addi (extui 32 (cmpi .slt D (fillT 1243#32)) natLt_1_32) (constantI S_ 32 0#32) reducesTo_S148x28_S148_d1 h_S_

end Cert.Proof.Kernel

end
-- ==== Proof.ReadKernel.lean ====
/- The host lines read: what the region finds in the tables and in the activations' buffer is the table functions of the
   index arguments. -/
module

public import proofs.«01_k».proof.Proof.RunKernel
public import proofs.«01_k».proof.Proof.TablesKernel
public import Idealize.ShloMosaic.Lib.StableHlo.Run
public import Idealize.ShloMosaic.Lib.StableHlo.RunRead

@[expose] public section

set_option maxRecDepth 65536

noncomputable section

namespace Cert.Proof.Kernel

open Cert.Kernel Cert.Kernel.Gen
open Idealize.ShloMosaic Idealize.ShloMosaic.TcCoe Idealize.ShloMosaic.Tactic
open Idealize.ShloMosaic.ValueIdx (ix1 ix2 ix3)

variable {F : FTy → Type} [FloatOps F]

variable (m : (ℓ : Loc nD τ sig) → Buf (Elt F) ℓ) (c : Dev nD)

/-- The table of entries, on the arguments of core `c`. -/
abbrev denseM : IVec S148x28 32 := dense (m ((c : Thread nD τ).loc main_arg1)) (m ((c : Thread nD τ).loc main_arg2))

/-- A line of operations in two parts. -/
theorem after_two (l₁ l₂ : List (HloOp τ sig (Elt F))) (W : Valuation τ sig (Elt F)) : StableHlo.after (l₁ ++ l₂) W = StableHlo.after l₂ (StableHlo.after l₁ W) := by
  induction l₁ generalizing W with
  | nil => rfl
  | cons op l ih => exact ih _

/-- The buffers when the table of entries is made. -/
abbrev W2 : Valuation τ sig (Elt F) := StableHlo.after (hostOps0 ++ (hostOps0_1 ++ hostOps0_2)) (fun b => m (c, b))

theorem V_split (b : Ref sig .tc) : V m c b = StableHlo.after hostOps0_5 (StableHlo.after hostOps0_4 (StableHlo.after hostOps0_3 (W2 m c))) (Proc.devRef .tc b) := by
  unfold V V0 W2
  rw [show List.flatten [hostOps0, hostOps0_1, hostOps0_2, hostOps0_3, hostOps0_4, hostOps0_5]
    = (hostOps0 ++ (hostOps0_1 ++ hostOps0_2)) ++ (hostOps0_3 ++ (hostOps0_4 ++ (hostOps0_5 : List (HloOp τ sig (Elt F))))) from rfl,
    after_two, after_two, after_two]

set_option maxHeartbeats 4000000 in
theorem W2_v18 : W2 m c (Proc.devRef .tc main_v18) = denseM m c := by
  unfold W2
  after_reads_simp
  rfl

section Later
variable (W : Valuation τ sig (Elt F))

set_option maxHeartbeats 400000 in
theorem sort_v19 : StableHlo.after hostOps0_3 W (Proc.devRef .tc main_v19) = order (W (Proc.devRef .tc main_v18)) := by
  after_reads_simp
  generalize W (Proc.devRef .tc main_v18) = D
  unfold order
  rfl

theorem sort_v18 : StableHlo.after hostOps0_3 W (Proc.devRef .tc main_v18) = W (Proc.devRef .tc main_v18) := by
  after_reads_simp

theorem sort_arg0 : StableHlo.after hostOps0_3 W (Proc.devRef .tc main_arg0) = W (Proc.devRef .tc main_arg0) := by
  after_reads_simp

set_option maxHeartbeats 400000 in
theorem take_v20 :
    StableHlo.after hostOps0_4 W (Proc.devRef .tc main_v20) = ents (W (Proc.devRef .tc main_v18)) (W (Proc.devRef .tc main_v19)) := by
  after_reads_simp
  generalize W (Proc.devRef .tc main_v18) = D
  generalize W (Proc.devRef .tc main_v19) = O
  unfold ents takeAt
  rfl

theorem take_v18 : StableHlo.after hostOps0_4 W (Proc.devRef .tc main_v18) = W (Proc.devRef .tc main_v18) := by
  after_reads_simp

theorem take_v19 : StableHlo.after hostOps0_4 W (Proc.devRef .tc main_v19) = W (Proc.devRef .tc main_v19) := by
  after_reads_simp

theorem take_arg0 : StableHlo.after hostOps0_4 W (Proc.devRef .tc main_arg0) = W (Proc.devRef .tc main_arg0) := by
  after_reads_simp

theorem count_v19 : StableHlo.after hostOps0_5 W (Proc.devRef .tc main_v19) = W (Proc.devRef .tc main_v19) := by
  after_reads_simp

theorem count_v20 : StableHlo.after hostOps0_5 W (Proc.devRef .tc main_v20) = W (Proc.devRef .tc main_v20) := by
  after_reads_simp

set_option maxHeartbeats 400000 in
theorem count_v24 : StableHlo.after hostOps0_5 W (Proc.devRef .tc main_v24) = cnts (W (Proc.devRef .tc main_v18)) := by
  after_reads_simp
  generalize W (Proc.devRef .tc main_v18) = D
  unfold cnts
  rfl

theorem count_v25 : StableHlo.after hostOps0_5 W (Proc.devRef .tc main_v25)
    = shapeCast S1024x3584 (W (Proc.devRef .tc main_arg0)) shapeCasts_S1x1024x3584_S1024x3584 := by
  after_reads_simp
  rfl

end Later

set_option maxHeartbeats 4000000 in
theorem W2_arg0 : W2 m c (Proc.devRef .tc main_arg0) = m ((c : Thread nD τ).loc main_arg0) := by
  unfold W2
  after_reads_simp

/-- The orders the region reads, -/
theorem V_v19 : V m c main_v19 = order (denseM m c) := by
  rw [V_split, count_v19, take_v19, sort_v19, W2_v18]
/-- the entries in that order, -/
theorem V_v20 : V m c main_v20 = ents (denseM m c) (order (denseM m c)) := by
  rw [V_split, count_v20, take_v20, sort_v18, sort_v19, W2_v18]
/-- their numbers, -/
theorem V_v24 : V m c main_v24 = cnts (denseM m c) := by
  rw [V_split, count_v24, take_v18, sort_v18, W2_v18]
/-- and the activations. -/
theorem V_v25 : V m c main_v25 = shapeCast S1024x3584 (m ((c : Thread nD τ).loc main_arg0)) shapeCasts_S1x1024x3584_S1024x3584 := by
  rw [V_split, count_v25, take_arg0, sort_arg0, W2_arg0]

end Cert.Proof.Kernel

end
-- ==== Proof.SortKernel.lean ====
/- The tables' words: an entry's number or 1243 in every place of the table of entries; each row's order a permutation that
   puts the entries before the empty places; the entries taken in that order; their number. -/
module

public import proofs.«01_k».proof.Proof.TablesKernel
public import Idealize.ShloMosaic.Lib.SortFacts
public import Idealize.ShloMosaic.Lib.ReduceAll
public import Idealize.ShloMosaic.Lib.WordCmp
public import Idealize.ShloMosaic.Lib.Routing.OpsOrder
public import Idealize.ShloMosaic.Lib.StableHlo.Predicate
public import Idealize.ShloMosaic.Lib.Pipeline.Value

@[expose] public section

noncomputable section

namespace Cert.Proof.Kernel

open Cert.Kernel Cert.Kernel.Gen
open Idealize.ShloMosaic
open Idealize.ShloMosaic.ValueIdx (ix1 ix2 ix3)

/-! ## Counting along a sorted row -/

/-- A downward closed set of positions is the positions below its size. -/
theorem lower_iff {n : ℕ} (P : Fin n → Prop) [DecidablePred P] (hP : ∀ i j, i ≤ j → P j → P i) (i : Fin n) :
    P i ↔ i.val < (Finset.univ.filter P).card := by
  constructor
  · intro h
    have hs : Finset.Iic i ⊆ Finset.univ.filter P := fun j hj => Finset.mem_filter.2 ⟨Finset.mem_univ _, hP _ _ (Finset.mem_Iic.1 hj) h⟩
    have := Finset.card_le_card hs
    rw [Fin.card_Iic] at this
    omega
  · intro h
    by_contra hn
    have hs : Finset.univ.filter P ⊆ Finset.Iio i := fun j hj => by
      rw [Finset.mem_Iio]
      by_contra hle
      exact hn (hP _ _ (not_lt.1 hle) (Finset.mem_filter.1 hj).2)
    have := Finset.card_le_card hs
    rw [Fin.card_Iio] at this
    omega

/-! ## The table of entries -/

variable (a1 : IVec S29 32) (a2 : IVec S1243 32)

/-- Every word of the table is at most 1243. -/
theorem dense_le (i : S148x28.Idx) : (dense a1 a2 i).toNat ≤ 1243 := by
  unfold dense
  refine Routing.scatter_forall _ _ (fun w : BitVec 32 => w.toNat ≤ 1243) (fun _ _ _ h => h) _ _ _ (fun _ => ?_) (fun j => ?_) i
  · show (1243#32).toNat ≤ 1243
    decide
  · show (BitVec.ofNat 32 (j 0).val).toNat ≤ 1243
    have : (j 0).val < 1243 := (j 0).isLt
    rw [BitVec.toNat_ofNat]
    omega

/-! ## A row's order -/

variable (D : IVec S148x28 32) (hD : ∀ i, (D i).toNat ≤ 1243)

/-- Row `j`'s sort: position `i` holds the place `perm D j i`. -/
def perm (j : Fin 148) : Fin 28 → Fin 28 :=
  sortedFrom fun a b => IntOp.cmpi .slt (D (ix2 j a)) (D (ix2 j b)) == 1#1

theorem perm_injective (j : Fin 148) : Function.Injective (perm D j) := sortedFrom_injective _
theorem perm_bijective (j : Fin 148) : Function.Bijective (perm D j) := Finite.injective_iff_bijective.1 (perm_injective D j)

theorem along_eq (j : Fin 148) (i k : Fin 28) : (ix2 j i : S148x28.Idx).along (1 : Fin 2) k = (ix2 j k : S148x28.Idx) := by
  funext b
  match b with
  | ⟨0, _⟩ => rfl
  | ⟨1, _⟩ => rfl

theorem order_at (j : Fin 148) (i : Fin 28) : order D (ix2 j i) = BitVec.ofNat 32 (perm D j i).val := by
  have hb : (fun a b : Fin 28 => comparator_i32_i32_d1
      (D ((ix2 j i : S148x28.Idx).along (1 : Fin 2) a), iotaInDim S148x28 32 1 ((ix2 j i : S148x28.Idx).along (1 : Fin 2) a))
      (D ((ix2 j i : S148x28.Idx).along (1 : Fin 2) b), iotaInDim S148x28 32 1 ((ix2 j i : S148x28.Idx).along (1 : Fin 2) b)) == 1#1)
      = fun a b => IntOp.cmpi .slt (D (ix2 j a)) (D (ix2 j b)) == 1#1 := by
    funext a b
    rw [along_eq, along_eq]
    rfl
  have h1 : order D (ix2 j i) = iotaInDim S148x28 32 1 ((ix2 j i : S148x28.Idx).along (1 : Fin 2) (sortedFrom (n := 28) (fun a b : Fin 28 => comparator_i32_i32_d1
      (D ((ix2 j i : S148x28.Idx).along (1 : Fin 2) a), iotaInDim S148x28 32 1 ((ix2 j i : S148x28.Idx).along (1 : Fin 2) a))
      (D ((ix2 j i : S148x28.Idx).along (1 : Fin 2) b), iotaInDim S148x28 32 1 ((ix2 j i : S148x28.Idx).along (1 : Fin 2) b)) == 1#1) i)) := by
    unfold order Host.sort2
    rw [dif_pos (by decide : 1 < S148x28.rank)]
    rfl
  rw [h1, hb, along_eq]
  rfl

theorem toInt_of_le (x : BitVec 32) (hx : x.toNat ≤ 1243) : x.toInt = x.toNat := BitVec.toInt_eq_toNat_of_lt (by omega)

theorem slt_iff (x y : BitVec 32) (hx : x.toNat ≤ 1243) (hy : y.toNat ≤ 1243) : IntOp.cmpi .slt x y = 1#1 ↔ x.toNat < y.toNat := by
  rw [IntOp.cmpi_slt, toInt_of_le x hx, toInt_of_le y hy]
  omega

/-- The words ascend along the order. -/
theorem perm_mono (hD : ∀ i, (D i).toNat ≤ 1243) (j : Fin 148) (a b : Fin 28) (h : a ≤ b) : (D (ix2 j (perm D j a))).toNat ≤ (D (ix2 j (perm D j b))).toNat := by
  rcases eq_or_lt_of_le h with rfl | h
  · exact le_rfl
  have key : ∀ x y : Fin 28, (IntOp.cmpi .slt (D (ix2 j x)) (D (ix2 j y)) == 1#1) = decide ((D (ix2 j x)).toNat < (D (ix2 j y)).toNat) := fun x y => by
    rw [Bool.eq_iff_iff, beq_iff_eq, decide_eq_true_iff, slt_iff _ _ (hD _) (hD _)]
  have := sortedFrom_noInversion (fun a b : Fin 28 => IntOp.cmpi .slt (D (ix2 j a)) (D (ix2 j b)) == 1#1)
    (fun a b : Fin 28 => IntOp.cmpi .slt (D (ix2 j a)) (D (ix2 j b)) == 1#1)
    (fun a b h => by rw [key, decide_eq_true_iff] at h; rw [key, decide_eq_false_iff_not]; omega) (fun _ _ h => h)
    (fun a b c h₁ h₂ => by rw [key, decide_eq_false_iff_not] at *; omega) a b h
  rw [key, decide_eq_false_iff_not] at this
  exact not_lt.1 this

/-- The number of entries of block column `j`. -/
theorem cnts_at (hD : ∀ i, (D i).toNat ≤ 1243) (j : Fin 148) :
    (cnts D (ix1 j)).toNat = (Finset.univ.filter fun k : Fin 28 => (D (ix2 j k)).toNat < 1243).card := by
  unfold cnts
  have := StableHlo.Predicate.toNat_reduce_count_cols (n := 148) (m := 28) (by decide) (cmpi .slt D (fillT 1243#32)) natLt_1_32 reducesTo_S148x28_S148_d1 h_S_ (ix1 j)
  refine this.trans (congrArg Finset.card (Finset.filter_congr fun k _ => ?_))
  have e : StableHlo.Predicate.ij ((ix1 j : (⟨1, ![148]⟩ : Shape).Idx) 0) k = ix2 j k := by
    funext b
    match b with
    | ⟨0, _⟩ => rfl
    | ⟨1, _⟩ => rfl
  exact (iff_of_eq (congrArg (fun x => cmpi .slt D (fillT 1243#32) x = 1#1) e)).trans (slt_iff _ 1243#32 (hD _) (by decide))

theorem cnts_le (hD : ∀ i, (D i).toNat ≤ 1243) (j : Fin 148) : (cnts D (ix1 j)).toNat ≤ 28 := by
  rw [cnts_at D hD]
  exact (Finset.card_le_univ _).trans (by simp)

/-- Along the order the entries come first: position `i` holds one exactly when it is below their number. -/
theorem entry_iff (hD : ∀ i, (D i).toNat ≤ 1243) (j : Fin 148) (i : Fin 28) :
    (D (ix2 j (perm D j i))).toNat < 1243 ↔ i.val < (cnts D (ix1 j)).toNat := by
  rw [lower_iff (fun i => (D (ix2 j (perm D j i))).toNat < 1243) (fun a b h hb => lt_of_le_of_lt (perm_mono D hD j a b h) hb) i, cnts_at D hD]
  have : (Finset.univ.filter fun i => (D (ix2 j (perm D j i))).toNat < 1243).card = (Finset.univ.filter fun k : Fin 28 => (D (ix2 j k)).toNat < 1243).card :=
    Finset.card_bijective (perm D j) (perm_bijective D j) fun i => by simp only [Finset.mem_filter, Finset.mem_univ, true_and]
  rw [this]

/-! ## The entries in the order -/

/-- A position's word is taken as it is. -/
theorem takeAt_at (O : IVec S148x28 32) (j : Fin 148) (i : Fin 28) (u : Fin 1) (h : (O (ix2 j i)).toNat < 28) : takeAt O (ix3 j i u) = O (ix2 j i) := by
  unfold takeAt
  rw [shapeCast_apply _ _ (ix3 j i u : S148x28x1.Idx) (ix2 j i : S148x28.Idx) (by
    rw [Shape.rowMajor_val_three, Shape.rowMajor_val_two]
    show j.val * 28 + i.val = (j.val * 28 + i.val) * 1 + u.val
    omega)]
  show (if IntOp.cmpi .slt (O (ix2 j i)) 0#32 = 1#1 then _ else O (ix2 j i)) = _
  rw [if_neg]
  rw [IntOp.cmpi_slt, toInt_of_le _ (by omega)]
  simp

/-- The gather along a table's rows read at an index. -/
theorem gather_at (O : IVec S148x28x1 32) (j : Fin 148) (i k : Fin 28) (h : (O (ix3 j i 0)).toNat = k.val) :
    Host.gather gather_S148x28_S148x28x1_S148x28_n_1_0_0_1_2_11 D O (ix2 j i) = D (ix2 j k) := by
  unfold Host.gather
  congr 1
  funext a
  refine Fin.ext ?_
  show gather_S148x28_S148x28x1_S148x28_n_1_0_0_1_2_11.start (ix2 j i) O a + gather_S148x28_S148x28x1_S148x28_n_1_0_0_1_2_11.batchCoord (ix2 j i) a
      + gather_S148x28_S148x28x1_S148x28_n_1_0_0_1_2_11.offCoord (ix2 j i) a = _
  have h01 : a = 1 ∨ a = 0 := by
    match a with
    | ⟨0, _⟩ => exact Or.inr rfl
    | ⟨1, _⟩ => exact Or.inl rfl
  rcases h01 with rfl | rfl
  · rw [GatherDims.batchCoord_eq_zero _ _ _ (fun h => absurd (List.mem_singleton.1 h) (by decide : (1 : Fin 2) ≠ 0)),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S148x28_S148x28x1_S148x28_n_1_0_0_1_2_11.startIndexMap from List.mem_singleton.mpr rfl)]
    have hsi : gather_S148x28_S148x28x1_S148x28_n_1_0_0_1_2_11.siIdx (ix2 j i) ⟨List.idxOf (1 : Fin 2) gather_S148x28_S148x28x1_S148x28_n_1_0_0_1_2_11.startIndexMap,
        List.idxOf_lt_length_iff.2 (List.mem_singleton.mpr rfl)⟩ = ix3 j i 0 := by
      funext b; refine Fin.ext ?_
      match b with
      | ⟨0, _⟩ => rfl
      | ⟨1, _⟩ => rfl
      | ⟨2, _⟩ => rfl
    rw [hsi, toInt_of_le _ (by have := k.isLt; omega), h]
    show min (k.val : Int).toNat (28 - 1) = k.val
    have := k.isLt
    omega
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ gather_S148x28_S148x28x1_S148x28_n_1_0_0_1_2_11.operandBatchingDims from List.mem_singleton.mpr rfl)]
    rfl

/-- The entry at position `i` of block column `j`. -/
theorem ents_at (j : Fin 148) (i : Fin 28) : ents D (order D) (ix2 j i) = D (ix2 j (perm D j i)) := by
  have ho : ∀ j i, (order D (ix2 j i)).toNat = (perm D j i).val := fun j i => by
    rw [order_at, BitVec.toNat_ofNat]
    have := (perm D j i).isLt
    omega
  have ht : ∀ x, (takeAt (order D) x).toNat < 28 := fun x => by
    have hx : x = (ix3 (x 0) (x 1) (x 2) : S148x28x1.Idx) := ValueIdx.eq_ix3 x
    have hi : ∀ (a : Fin 148) (b : Fin 28), (order D (ix2 a b)).toNat < 28 := fun a b => by rw [ho]; exact (perm D _ _).isLt
    have h3 : ∀ (a : Fin 148) (b : Fin 28) (u : Fin 1), (takeAt (order D) (ix3 a b u)).toNat < 28 := fun a b u => by
      rw [takeAt_at _ _ _ _ (hi a b)]
      exact hi a b
    exact lt_of_eq_of_lt (congrArg (fun y => (takeAt (order D) y).toNat) hx) (h3 _ _ _)
  unfold ents
  show (if _ = 1#1 then _ else _) = _
  rw [if_pos]
  · refine gather_at D _ j i (perm D j i) ?_
    rw [takeAt_at _ _ _ _ (by rw [ho]; exact (perm D j i).isLt), ho]
  · refine Host.reduce_andi_one _ _ _ _ _ rfl fun x => ?_
    show IntOp.andi (IntOp.cmpi .sge (takeAt (order D) x) 0#32) (IntOp.cmpi .sle (takeAt (order D) x) 27#32) = 1#1
    have h28 := ht x
    rw [IntOp.andi_eq_one, IntOp.cmpi_sge, IntOp.cmpi_sle]
    have h0 : (takeAt (order D) x).toInt = (takeAt (order D) x).toNat := toInt_of_le _ (by omega)
    rw [h0]
    exact ⟨Int.natCast_nonneg _, Int.ofNat_le.2 (by omega : (takeAt (order D) x).toNat ≤ 27)⟩

end Cert.Proof.Kernel

end
-- ==== Proof.OkKernel.lean ====
/- The tables' words are in range on every input, so the kernel's program leaves its arguments as they were. -/
module

public import proofs.«01_k».proof.Proof.ReadKernel
public import proofs.«01_k».proof.Proof.SortKernel

@[expose] public section

noncomputable section

namespace Cert.Proof.Kernel

open Cert.Kernel Cert.Kernel.Gen
open Idealize.ShloMosaic Idealize.ShloMosaic.TcCoe
open Idealize.ShloMosaic.ValueIdx (ix1 ix2 ix3)

/-- The words that block column `i` reads, for any table of entries. -/
theorem words_ok (D : IVec S148x28 32) (hD : ∀ i, (D i).toNat ≤ 1243) (i : grid0.Coords) : WordsOk (order D) (ents D (order D)) (cnts D) i := by
  have hc := cnts_le D hD (i 0)
  refine ⟨hc, fun k hk => ?_⟩
  have h28 : k < 28 := lt_of_lt_of_le hk hc
  unfold word
  rw [dif_pos h28, dif_pos h28]
  have ho := order_at D (i 0) ⟨k, h28⟩
  have he := ents_at D (i 0) ⟨k, h28⟩
  have hp := (perm D (i 0) ⟨k, h28⟩).isLt
  have hn : (BitVec.ofNat 32 (perm D (i 0) ⟨k, h28⟩).val).toNat < 28 := by rw [BitVec.toNat_ofNat]; omega
  exact ⟨lt_of_eq_of_lt (congrArg BitVec.toNat ho) hn, lt_of_eq_of_lt (congrArg BitVec.toNat he) ((entry_iff D hD (i 0) ⟨k, h28⟩).2 hk)⟩

variable {F : FTy → Type} [FloatOps F] (m : (ℓ : Loc nD τ sig) → Buf (Elt F) ℓ) (ρ : Dev nD → PrngReg)

theorem dense_ok (c : Dev nD) (i : S148x28.Idx) : (denseM m c i).toNat ≤ 1243 := dense_le _ _ i

/-- On every input the tables' words are in range. -/
theorem tables_ok : TablesOk m := fun c i => by
  rw [V_v19, V_v20, V_v24]
  exact words_ok (denseM m c) (dense_ok m c) i

end Cert.Proof.Kernel

end
-- ==== Proof.WordsIdeal.lean ====
/- The side conditions of the kernel's words: a count of at most 28 makes both counted loops legal (the first takes
   that many trips, the second takes none), a row block below 28 and an entry below 1243 keep every load in range. -/
module

public import proofs.«01_k».proof.Proof.Gen.KernelIdeal
public import Idealize.ShloMosaic.Lib.Affine
public import Idealize.ShloMosaic.Lib.WordArith
public import Idealize.ShloMosaic.Lib.LoopRemainder

@[expose] public section

namespace Cert.Proof.KernelIdeal

open Cert.KernelIdeal
open Idealize.ShloMosaic

/-- A small word is not negative. -/
theorem toInt_small (v : BitVec 32) (h : v.toNat ≤ 1243) : v.toInt = v.toNat := by
  rw [BitVec.toInt_eq_toNat_of_lt]; omega

/-- The first loop takes as many trips as the count says. -/
theorem t1_trips (v5 : BitVec 32) (h : v5.toNat ≤ 28) : (k0_t1_loop v5).trips = v5.toNat := by
  have := toInt_small v5 (by omega)
  have r_n := Affine.word_range v5
  have h_n : Affine.IsInt v5 v5.toInt := Affine.word v5
  have h0 : Affine.IsInt (0#32) 0 := Affine.ofNat 0 (by omega)
  have h1 : Affine.IsInt (1#32) 1 := Affine.ofNat 1 (by omega)
  have h6 := Affine.subi (e := v5.toInt) h_n h0 (by omega)
  have h8 := Affine.divsi_one (e := v5.toInt) h6 h1 ⟨rfl, rfl⟩
  have h9 := Affine.muli (e := v5.toInt) h8 h1 (by omega)
  have h10 := Affine.addi (e := v5.toInt) h0 h9 (by omega)
  unfold Affine.IsInt at h10
  show Scf.trips _ _ _ = _
  rw [Scf.trips, h10]
  have e0 : (0#32).toInt = 0 := rfl
  have e1 : (1#32).toInt = 1 := rfl
  rw [e0, e1]; omega

/-- Where trip `k` of the first loop reads the tables: the block column's row, at `k`. -/
theorem off2_eq (i : grid0.Coords) (v5 : BitVec 32) (h : v5.toNat ≤ 28) (k : Fin (k0_t1_loop v5).trips) :
    k0_off2 i v5 k = ![(i 0).val, k.val] := by
  have hk : k.val < 28 := lt_of_lt_of_le k.isLt (le_of_eq_of_le (t1_trips v5 h) h)
  have hi : (i 0).val < 148 := (i 0).isLt
  have a : (BitVec.ofNat 32 (i 0).val).toNat = (i 0).val := by
    rw [BitVec.toNat_ofNat]; omega
  have b : (Scf.iv (0#32) (1#32) k.val).toNat = k.val := by
    simp only [Scf.iv, BitVec.zero_add, BitVec.mul_one, BitVec.toNat_ofNat]; omega
  show ![(BitVec.ofNat 32 (i 0).val).toNat, (Scf.iv (0#32) (1#32) k.val).toNat] = _
  rw [a, b]

/-- A count of at most 28 passes the body's first check. -/
theorem chk1_of (i : grid0.Coords) (v5 : BitVec 32) (h : v5.toNat ≤ 28) : k0_chk1 i v5 := by
  refine ⟨?_, ?_, Scf.rem_ok _ _, fun k => (Scf.rem_no_trip _ _ k).elim⟩
  · have := toInt_small v5 (by omega)
    have t : Scf.trips (k0_t1_loop v5).lb (k0_t1_loop v5).ub (k0_t1_loop v5).st = v5.toNat := t1_trips v5 h
    show Scf.OK _ _ _
    unfold Scf.OK
    rw [t]
    have e0 : ((k0_t1_loop v5).lb).toInt = 0 := rfl
    have e1 : ((k0_t1_loop v5).st).toInt = 1 := rfl
    rw [e0, e1]; omega
  · intro k
    have hk : k.val < 28 := lt_of_lt_of_le k.isLt (le_of_eq_of_le (t1_trips v5 h) h)
    have hi : (i 0).val < 148 := (i 0).isLt
    rw [off2_eq i v5 h]
    intro a; fin_cases a
    · show (i 0).val + 1 ≤ 148; omega
    · show k.val + 1 ≤ 28; omega

/-- Where the block of entry `v` begins. -/
theorem off3_eq (v : BitVec 32) : k0_off3 v = ![v.toNat, 0, 0] := rfl
/-- Where the scale of entry `v` is. -/
theorem off4_eq (v : BitVec 32) : k0_off4 v = ![v.toNat] := rfl

/-- An entry below 1243 passes the body's check of it. -/
theorem chk2_of (v : BitVec 32) (h : v.toNat < 1243) : k0_chk2 v := by
  refine ⟨?_, ?_⟩
  · rw [off3_eq]; intro a; fin_cases a
    · show v.toNat + 1 ≤ 1243; omega
    · show 0 + 128 ≤ 128; omega
    · show 0 + 128 ≤ 128; omega
  · rw [off4_eq]; intro a; fin_cases a
    show v.toNat + 1 ≤ 1243; omega

/-- Where the columns of row block `v` begin in the activations. -/
theorem off5_eq (v : BitVec 32) (h : v.toNat < 28) : k0_off5 v = ![0, v.toNat * 128] := by
  have a : (Scalar.muli v 128#32).toNat = v.toNat * 128 := by
    show (v * 128#32).toNat = _
    rw [BitVec.toNat_mul]
    have : (128#32).toNat = 128 := rfl
    rw [this]; omega
  show ![0, (Scalar.muli v 128#32).toNat] = _
  rw [a]

/-- A row block below 28 passes the body's check of it. -/
theorem chk3_of (v : BitVec 32) (h : v.toNat < 28) : k0_chk3 v := by
  have a : (k0_mult1 v).toNat = v.toNat * 128 := by
    show (v * 128#32).toNat = _
    rw [BitVec.toNat_mul]
    have : (128#32).toNat = 128 := rfl
    rw [this]; omega
  refine ⟨⟨v.toNat, by rw [a]; omega⟩, ?_⟩
  rw [off5_eq v h]; intro a; fin_cases a
  · show 0 + 1024 ≤ 1024; omega
  · show v.toNat * 128 + 128 ≤ 3584; omega

end Cert.Proof.KernelIdeal

end
-- ==== Proof.BodyIdeal.lean ====
/- The kernel's body at one grid point, on whole buffers: from the tables' words in range it leaves, in the output's
   block, the running sum of the block column's products, rounded. -/
module

public import proofs.«01_k».proof.Proof.Gen.KernelIdeal.Skeleton
public import proofs.«01_k».proof.Proof.Gen.KernelIdeal.Loops
public import proofs.«01_k».proof.Proof.Gen.KernelIdeal.Launch
public import proofs.«01_k».proof.Proof.WordsIdeal
public import Idealize.ShloMosaic.Lib.Pipeline.FrameBody
public import Idealize.ShloMosaic.Lib.Pipeline.Frame
public import Idealize.ShloMosaic.Lib.VecWindow
public import Idealize.ShloMosaic.Lib.ValueIdxCore
public import Idealize.ShloMosaic.Lib.Tactic

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2 ix3)

variable {F : FTy → Type} [FloatOps F]

local notation "𝕄" => MT nD τ sig Unit (Elt F) ℕ (UR sig nD τ) ℕ

/-- The algebra of the loop invariants. -/
abbrev UU (nD : Nat) (τ : Topo) : Type := UR sig nD τ
/-- No variants. -/
abbrev 𝒱₀ : Variants := Variants.none

/-- The word of table `T` for the block column `i` at position `k` (0 past the table). -/
def word (T : S148x28.Idx → BitVec 32) (i : grid0.Coords) (k : ℕ) : BitVec 32 :=
  if h : k < 28 then T (ix2 (n0 := 148) (n1 := 28) (i 0) ⟨k, h⟩) else 0#32

/-- The scale of entry `e` (the first one past the array). -/
def scaleOf (S : S1243.Idx → Elt F .f32) (e : BitVec 32) : Elt F .f32 :=
  if h : e.toNat < 1243 then S (ix1 (n := 1243) ⟨e.toNat, h⟩) else S (ix1 (n := 1243) ⟨0, by decide⟩)

/-- What one trip makes of the accumulator `a`: at row block `o` and entry `e`, when both are in range. -/
def trip (S : S1243.Idx → Elt F .f32) (X : Vec F S1024x3584 .bf16) (B : Vec F S1243x128x128 .fp8e4m3) (o e : BitVec 32)
    (a : Vec F S1024x128 .f32) : Vec F S1024x128 .f32 :=
  if h : k0_chk3 o ∧ k0_chk2 e then
    k0_pay2 (View.ld B (Rect.unit (s := S1243x128x128) (k0_off3 e) S1x128x128.size (k0_off3_inb e h.2))) (scaleOf S e)
      (View.ld X (Rect.unit (s := S1024x3584) (k0_off5 o) S1024x128.size (k0_off5_inb o h.1))) a
  else a

/-- The accumulator before trip `k` of block column `i`. -/
def accAt (O E : S148x28.Idx → BitVec 32) (S : S1243.Idx → Elt F .f32) (X : Vec F S1024x3584 .bf16)
    (B : Vec F S1243x128x128 .fp8e4m3) (i : grid0.Coords) : ℕ → Vec F S1024x128 .f32
  | 0 => k0_pay1
  | k + 1 => trip S X B (word O i k) (word E i k) (accAt O E S X B i k)

/-- The words of block column `i` are in range: the count is at most 28 and, at every position below it, the row block
    is below 28 and the entry below 1243. -/
def WordsOk (O E : S148x28.Idx → BitVec 32) (C : S148.Idx → BitVec 32) (i : grid0.Coords) : Prop :=
  (C (ix1 (n := 148) (i 0))).toNat ≤ 28 ∧
    ∀ k, k < (C (ix1 (n := 148) (i 0))).toNat → (word O i k).toNat < 28 ∧ (word E i k).toNat < 1243

section Reads

/-- The word a scalar load of a table takes at trip `k`. -/
theorem read_word (m : Memref sig .tc .smem S148x28 .i32) (f : m.view.ty.Contents (Elt F)) (i : grid0.Coords) (v5 : BitVec 32)
    (h5 : v5.toNat ≤ 28) (hw : k0_chk1 i v5) (k : Fin (k0_t1_loop v5).trips) (hn) :
    View.readAt (Elt F) m.view (Rect.unit (s := S148x28) (k0_off2 i v5 k) S1x1.size (k0_off2_inb i v5 hw k)).toLoadRect f
      (Shape.Idx.first hn) = word (m.view.read (Elt F) f) i k.val := by
  have hk : k.val < 28 := lt_of_lt_of_le k.isLt (le_of_eq_of_le (t1_trips v5 h5) h5)
  rw [View.readAt_apply, word, dif_pos hk]
  refine congrArg (m.view.read (Elt F) f) (funext fun a => Fin.ext ?_)
  have e := congrFun (off2_eq i v5 h5 k) a
  show k0_off2 i v5 k a + 1 * 0 = _
  rw [e]
  fin_cases a <;> rfl

/-- The count a scalar load takes at the grid point. -/
theorem read_cnt (m : Memref sig .tc .smem S148 .i32) (f : m.view.ty.Contents (Elt F)) (i : grid0.Coords) (hn) :
    View.readAt (Elt F) m.view (Rect.unit (s := S148) (k0_off1 i) S1.size (k0_off1_inb i)).toLoadRect f
      (Shape.Idx.first hn) = m.view.read (Elt F) f (ix1 (n := 148) (i 0)) := by
  rw [View.readAt_apply]
  refine congrArg (m.view.read (Elt F) f) (funext fun a => Fin.ext ?_)
  have hi : (i 0).val < 148 := (i 0).isLt
  fin_cases a
  show (BitVec.ofNat 32 (i 0).val).toNat + 1 * 0 = (i 0).val
  rw [BitVec.toNat_ofNat]; omega

/-- The scale a scalar load takes at entry `e`. -/
theorem read_scale (m : Memref sig .tc .smem S1243 .f32) (f : m.view.ty.Contents (Elt F)) (e : BitVec 32)
    (he : e.toNat < 1243) (hw : k0_chk2 e) (hn) :
    View.readAt (Elt F) m.view (Rect.unit (s := S1243) (k0_off4 e) S1.size (k0_off4_inb e hw)).toLoadRect f
      (Shape.Idx.first hn) = scaleOf (F := F) (m.view.read (Elt F) f) e := by
  rw [View.readAt_apply, scaleOf, dif_pos he]
  refine congrArg (m.view.read (Elt F) f) (funext fun a => Fin.ext ?_)
  fin_cases a
  show e.toNat + 1 * 0 = e.toNat
  omega

end Reads

/-- One trip's store, the words of the trip named by any terms that equal the tables'. -/
theorem trip_pay (m8 : Memref sig .tc .vmem S1024x128 .f32) (m6 : Memref sig .tc .vmem S1243x128x128 .fp8e4m3)
    (m5 : Memref sig .tc .vmem S1024x3584 .bf16) (S : S1243.Idx → Elt F .f32)
    (f5 : m5.view.ty.Contents (Elt F)) (f6 : m6.view.ty.Contents (Elt F)) (g : m8.view.ty.Contents (Elt F))
    (o e o' e' : BitVec 32) (ho : o = o') (he : e = e') (h3 : k0_chk3 o) (h2 : k0_chk2 e) (s : Elt F .f32)
    (hs : s = scaleOf (F := F) S e') (a : Vec F S1024x128 .f32) (ha : m8.view.read (Elt F) g = a) :
    m8.view.read (Elt F) (m8.view.writes (Elt F) g [⟨Rect.unit ![0, 0] S1024x128.size inb_S1024x128_S1024x128_0_0,
      k0_pay2 (View.readAt (Elt F) m6.view (Rect.unit (s := S1243x128x128) (k0_off3 e) S1x128x128.size (k0_off3_inb e h2)).toLoadRect f6) s
        (View.readAt (Elt F) m5.view (Rect.unit (s := S1024x3584) (k0_off5 o) S1024x128.size (k0_off5_inb o h3)).toLoadRect f5)
        (View.readAt (Elt F) m8.view (Rect.unit (s := S1024x128) ![0, 0] S1024x128.size inb_S1024x128_S1024x128_0_0).toLoadRect g)⟩])
      = trip S (m5.view.read (Elt F) f5) (m6.view.read (Elt F) f6) o' e' a := by
  subst ho he hs ha
  rw [trip, dif_pos ⟨h3, h2⟩, View.read_writes_full, View.readAt_full]
  rfl

section LoopT1

variable (c : Dev nD) (q : PosShare TreeShare)

/-- The invariant of the loop over the block column's entries: the inputs as they were, the accumulator at the running
    sum of the trips gone by. -/
@[sl_loop, instance_reducible] noncomputable def loopInv_k0_t1 (i : grid0.Coords) (arg1 : Memref sig .tc .smem S148x28 .i32) (harg1 : arg1.IsWhole) (arg2 : Memref sig .tc .smem S148x28 .i32) (harg2 : arg2.IsWhole) (arg3 : Memref sig .tc .smem S148 .i32) (harg3 : arg3.IsWhole) (arg4 : Memref sig .tc .smem S1243 .f32) (harg4 : arg4.IsWhole) (arg5 : Memref sig .tc .vmem S1024x3584 .bf16) (harg5 : arg5.IsWhole) (arg6 : Memref sig .tc .vmem S1243x128x128 .fp8e4m3) (harg6 : arg6.IsWhole) (arg7 : Memref sig .tc .vmem S1024x128 .bf16) (harg7 : arg7.IsWhole) (arg8 : Memref sig .tc .vmem S1024x128 .f32) (harg8 : arg8.IsWhole) (v5 : Elt F .i32) (k0_hw1 : k0_chk1 i v5) (init : BitVec 32)
    (f1 : Buf (Elt F) (arg1.view.loc (c : Thread nD τ))) (f2 : Buf (Elt F) (arg2.view.loc (c : Thread nD τ)))
    (f4 : Buf (Elt F) (arg4.view.loc (c : Thread nD τ))) (f5 : Buf (Elt F) (arg5.view.loc (c : Thread nD τ)))
    (f6 : Buf (Elt F) (arg6.view.loc (c : Thread nD τ)))
    (h5 : v5.toNat ≤ 28)
    (hok : ∀ k, k < v5.toNat → (word (arg1.view.read (Elt F) f1) i k).toNat < 28 ∧ (word (arg2.view.read (Elt F) f2) i k).toNat < 1243) :
    LoopInvTy_k0_t1 (F := F) Unit ℕ (UU nD τ) ℕ 𝒱₀ c none Set.univ i arg1 harg1 arg2 harg2 arg3 harg3 arg4 harg4 arg5 harg5 arg6 harg6 arg7 harg7 arg8 harg8 v5 k0_hw1 init where
  inv := fun k acc => iprop(((arg1.view.loc (c : Thread nD τ)) ↦{q} f1) ∗ ((arg2.view.loc (c : Thread nD τ)) ↦{q} f2)
    ∗ ((arg4.view.loc (c : Thread nD τ)) ↦[arg4.view.set]{fullShare} f4) ∗ ((arg5.view.loc (c : Thread nD τ)) ↦[arg5.view.set]{fullShare} f5)
    ∗ ((arg6.view.loc (c : Thread nD τ)) ↦[arg6.view.set]{fullShare} f6)
    ∗ ∃ g, ((arg8.view.loc (c : Thread nD τ)) ↦{fullShare} g) ∗
      ⌜arg8.view.read (Elt F) g = accAt (arg1.view.read (Elt F) f1) (arg2.view.read (Elt F) f2) (arg4.view.read (Elt F) f4)
        (arg5.view.read (Elt F) f5) (arg6.view.read (Elt F) f6) i k⌝)
  step := fun k acc => by
    have hk : k.val < v5.toNat := lt_of_lt_of_eq k.isLt (t1_trips v5 h5)
    have w := hok k.val hk
    unfold k0_t1_body
    iintro ⟨H1, H2, H4, H5, H6, ⟨%g, H8, %hg⟩⟩
    have c3 : k0_chk3 (View.readAt (Elt F) arg1.view (Rect.unit (s := S148x28) (k0_off2 i v5 k) S1x1.size (k0_off2_inb i v5 k0_hw1 k)).toLoadRect f1
      (Shape.Idx.first (show 0 < S1x1.numel from by decide))) := by
      rw [read_word arg1 f1 i v5 h5 k0_hw1 k]; exact chk3_of _ w.1
    have c2 : k0_chk2 (View.readAt (Elt F) arg2.view (Rect.unit (s := S148x28) (k0_off2 i v5 k) S1x1.size (k0_off2_inb i v5 k0_hw1 k)).toLoadRect f2
      (Shape.Idx.first (show 0 < S1x1.numel from by decide))) := by
      rw [read_word arg2 f2 i v5 h5 k0_hw1 k]; exact chk2_of _ w.2
    sl_exec
    sl_step
    isplitl [H1]; · iexact H1
    isplitl [H2]; · iexact H2
    isplitl [H4]; · iexact H4
    isplitl [H5]; · iexact H5
    isplitl [H6]; · iexact H6
    iexists _
    isplitl [H8]; · iexact H8
    ipureintro
    refine trip_pay arg8 arg6 arg5 _ f5 f6 g _ _ _ _ ?_ ?_ c3 c2 _ ?_ _ hg
    · exact read_word arg1 f1 i v5 h5 k0_hw1 k _
    · exact read_word arg2 f2 i v5 h5 k0_hw1 k _
    · refine (read_scale arg4 f4 _ ?_ c2 _).trans ?_
      · rw [read_word arg2 f2 i v5 h5 k0_hw1 k]; exact w.2
      · rw [read_word arg2 f2 i v5 h5 k0_hw1 k]

end LoopT1

section Kernel

variable (c : Dev nD)

/-- The body at grid point `i`, on whole buffers, from words in range: the inputs are left as they were, the output's
    block is the whole running sum of the block column, rounded. -/
theorem sound_kernel (q : PosShare TreeShare) (i : grid0.Coords) (arg1 : Memref sig .tc .smem S148x28 .i32) (harg1 : arg1.IsWhole) (arg2 : Memref sig .tc .smem S148x28 .i32) (harg2 : arg2.IsWhole) (arg3 : Memref sig .tc .smem S148 .i32) (harg3 : arg3.IsWhole) (arg4 : Memref sig .tc .smem S1243 .f32) (harg4 : arg4.IsWhole) (arg5 : Memref sig .tc .vmem S1024x3584 .bf16) (harg5 : arg5.IsWhole) (arg6 : Memref sig .tc .vmem S1243x128x128 .fp8e4m3) (harg6 : arg6.IsWhole) (arg7 : Memref sig .tc .vmem S1024x128 .bf16) (harg7 : arg7.IsWhole) (arg8 : Memref sig .tc .vmem S1024x128 .f32) (harg8 : arg8.IsWhole)
    (f1 : Buf (Elt F) (arg1.view.loc (c : Thread nD τ))) (f2 : Buf (Elt F) (arg2.view.loc (c : Thread nD τ)))
    (f3 : Buf (Elt F) (arg3.view.loc (c : Thread nD τ))) (f8 : Buf (Elt F) (arg8.view.loc (c : Thread nD τ)))
    (S : Vec F S1243 .f32) (X : Vec F S1024x3584 .bf16) (B : Vec F S1243x128x128 .fp8e4m3)
    (hok : WordsOk (arg1.view.read (Elt F) f1) (arg2.view.read (Elt F) f2) (arg3.view.read (Elt F) f3) i)
    (K : PUnit → sProp 𝕄) :
    iprop(((arg1.view.loc (c : Thread nD τ)) ↦{q} f1) ∗ ((arg2.view.loc (c : Thread nD τ)) ↦{q} f2) ∗ ((arg3.view.loc (c : Thread nD τ)) ↦{q} f3)
        ∗ owns (c : Thread nD τ) arg4 fullShare S ∗ owns (c : Thread nD τ) arg5 fullShare X ∗ owns (c : Thread nD τ) arg6 fullShare B
        ∗ (∃ d, owns (c : Thread nD τ) arg7 fullShare d) ∗ ((arg8.view.loc (c : Thread nD τ)) ↦{fullShare} f8)
        ∗ (iprop(((arg1.view.loc (c : Thread nD τ)) ↦{q} f1) ∗ ((arg2.view.loc (c : Thread nD τ)) ↦{q} f2) ∗ ((arg3.view.loc (c : Thread nD τ)) ↦{q} f3)
        ∗ owns (c : Thread nD τ) arg4 fullShare S ∗ owns (c : Thread nD τ) arg5 fullShare X ∗ owns (c : Thread nD τ) arg6 fullShare B
        ∗ owns (c : Thread nD τ) arg7 fullShare (k0_pay4 (accAt (arg1.view.read (Elt F) f1) (arg2.view.read (Elt F) f2) S X B i
            (arg3.view.read (Elt F) f3 (ix1 (n := 148) (i 0))).toNat))
        ∗ (∃ g8, ((arg8.view.loc (c : Thread nD τ)) ↦{fullShare} g8))) -∗ K ⟨⟩))
      ⊢ wp frame (wpE (defs₀ (F := F)) 𝒱₀ c none) Set.univ
        (cc0__body i arg1 harg1 arg2 harg2 arg3 harg3 arg4 harg4 arg5 harg5 arg6 harg6 arg7 harg7 arg8 harg8) K := by
  obtain ⟨h5, hw⟩ := hok
  simp only [cc0__body_eq_skeleton]; unfold cc0__body_skel
  unfold owns
  iintro ⟨H1, H2, H3, ⟨%f4, %hf4, H4⟩, ⟨%f5, %hf5, H5⟩, ⟨%f6, %hf6, H6⟩, ⟨%d7, %f7, -, H7⟩, H8, Hk⟩
  subst hf4 hf5 hf6
  have hcnt := read_cnt arg3 f3 i (show 0 < S1.numel from by decide)
  have c1 : k0_chk1 i (View.readAt (Elt F) arg3.view (Rect.unit (s := S148) (k0_off1 i) S1.size (k0_off1_inb i)).toLoadRect f3
      (Shape.Idx.first (show 0 < S1.numel from by decide))) := by rw [hcnt]; exact chk1_of i _ h5
  have h5' := h5; have hw' := hw
  rw [← hcnt] at h5' hw'
  have h0 : View.read (Elt F) arg8.view (arg8.view.writes (Elt F) arg8.view.junk
      [⟨Rect.unit ![0, 0] S1024x128.size inb_S1024x128_S1024x128_0_0, k0_pay1 (F := F)⟩])
      = accAt (View.read (Elt F) arg1.view f1) (View.read (Elt F) arg2.view f2) (View.read (Elt F) arg4.view f4)
        (View.read (Elt F) arg5.view f5) (View.read (Elt F) arg6.view f6) i 0 := View.read_writes_full _ _ _ _ _
  sl_exec
  sl_step
  iapply Hk
  isplitl [H1]; · iexact H1
  isplitl [H2]; · iexact H2
  isplitl [H3]; · iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    rw [View.read_writes_full, View.readAt_full, hL6]
    exact congrArg (fun n => k0_pay4 (accAt (View.read (Elt F) arg1.view f1) (View.read (Elt F) arg2.view f2)
      (View.read (Elt F) arg4.view f4) (View.read (Elt F) arg5.view f5) (View.read (Elt F) arg6.view f6) i n))
      ((t1_trips _ h5').trans (congrArg BitVec.toNat hcnt))
  iexists _; iexact H8

end Kernel

end Cert.Proof.KernelIdeal

end
-- ==== Proof.RunIdeal.lean ====
/- The run of the whole program: the host lines that build the tables, the pipeline over the block columns by the body's
   triple, and what every buffer holds at the end, given that the tables' words are in range. -/
module

public import proofs.«01_k».proof.Proof.BodyIdeal
public import Idealize.ShloMosaic.Lib.Claim
public import Idealize.ShloMosaic.Lib.Ring
public import Idealize.ShloMosaic.Lib.WordCmp

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix1 ix2 ix3)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines before the region -/

/-- Core `c`'s buffers when the region is entered: after the host lines. -/
abbrev V0 (c : Dev nD) : Valuation τ sig (Elt F) :=
  StableHlo.after (List.flatten [hostOps0, hostOps0_1, hostOps0_2, hostOps0_3, hostOps0_4, hostOps0_5]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor

set_option maxHeartbeats 800000 in
/-- The program is its host lines, then the region. -/
theorem hmain : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4, hostOps0_5]
    (by simp only [List.Forall]; exact ⟨hostOps0_sub, hostOps0_1_sub, hostOps0_2_sub, hostOps0_3_sub, hostOps0_4_sub, hostOps0_5_sub⟩)
    (by simp only [List.Forall]; exact ⟨hostOps0_fresh, hostOps0_1_fresh, hostOps0_2_fresh, hostOps0_3_fresh, hostOps0_4_fresh, hostOps0_5_fresh⟩)
    main_chain

/-- No host line writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.TRef.nullary, StableHlo.TRef.unary, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.TRef.nullary, StableHlo.TRef.unary, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.TRef.nullary, StableHlo.TRef.unary, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.TRef.nullary, StableHlo.TRef.unary, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host line writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.TRef.nullary, StableHlo.TRef.unary, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The tables and the windows' blocks -/

/-- The tables' contents when the region is entered. -/
def adm : (p : Fin 1) → (pcfgs (F := F) p).Adm := fun _ => ⟨fun k => V m 0 (pre0.ref k), trivial⟩

/-- The pipeline at those contents. -/
abbrev cfgm : Pipeline.Cfg sig Λ₀ := Pipeline.pin pcfgs (adm m) 0

/-- Window `w`'s block at point `t`, read off its array as the region finds it. -/
def iblk (c : Dev nD) (w : Fin (cfgm m).W) (t : Fin (cfgm m).N) : (((cfgm m).win w).xblock ((cfgm m).grid.coords t)).Idx → Elt F ((cfgm m).win w).elt :=
  (((cfgm m).win w).blk t).view.read (Elt F) (V m c (Pipeline.arrRef spec0 w))

/-- The words in range, on every core and at every grid point. -/
def TablesOk : Prop := ∀ (c : Dev nD) (i : grid0.Coords), WordsOk (V m c main_v19) (V m c main_v20) (V m c main_v24) i

/-- What the body leaves in the output's block at point `t`. -/
def outBlk (c : Dev nD) (t : Fin (cfgm m).N) : Vec F S1024x128 .bf16 :=
  k0_pay4 (accAt (V m c main_v19) (V m c main_v20) (iblk m c 0 t) (iblk m c 1 t) (iblk m c 2 t) (grid0.coords t)
    (V m c main_v24 (ix1 (n := 148) (grid0.coords t 0))).toNat)

/-! ## The pipeline's proof data -/

/-- The arrays as the region finds them, each input's block left in place, the output's at `outBlk`. -/
def dats (_ : Fin 1) (c : Dev nD) : Dat τ (Elt F) Unit ℕ (UR sig nD τ) ℕ (cfgm m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlk m c t
  Φ _ := iprop(Pipeline.ΦA spec0 c ∗ Pipeline.ΦT pre0 ((adm m) 0).1 c)
  q _ := fullShare
  owed _ := 0

theorem A_eq (c : Dev nD) (w : Fin (cfgm m).W) : (dats m 0 c).A w = V m c (Pipeline.arrRef spec0 w) := by
  dsimp only [dats]
theorem after0_0 (c : Dev nD) (t : Fin (cfgm m).N) : (dats m 0 c).after 0 t = iblk m c 0 t := rfl
theorem after0_1 (c : Dev nD) (t : Fin (cfgm m).N) : (dats m 0 c).after 1 t = iblk m c 1 t := rfl
theorem after0_2 (c : Dev nD) (t : Fin (cfgm m).N) : (dats m 0 c).after 2 t = iblk m c 2 t := rfl
theorem after0_3 (c : Dev nD) (t : Fin (cfgm m).N) : (dats m 0 c).after 3 t = outBlk m c t := rfl

/-- Input 0's staging buffer holds its block at every point. -/
theorem before0_0 (c : Dev nD) (t : Fin (cfgm m).N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
/-- Input 1's staging buffer holds its block at every point. -/
theorem before0_1 (c : Dev nD) (t : Fin (cfgm m).N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
/-- Input 2's staging buffer holds its block at every point. -/
theorem before0_2 (c : Dev nD) (t : Fin (cfgm m).N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)

/-! ## The body obligation -/

/-- The current staging memref of window `w` at point `t`. -/
abbrev stg (w : Fin (cfgm m).W) (t : Fin (cfgm m).N) := ((cfgm m).win w).stage ((cfgm m).slots t w)

/-- The body at point `t`, on what the pipeline calls it with. -/
abbrev bodyAt (t : Fin (cfgm m).N) : Prog (TpuEff nD τ sig (Elt F) Λ₀ .tc) PUnit :=
  cc0__body (grid0.coords t) (Memref.whole main_v19) (Memref.isWhole_whole _) (Memref.whole main_v20) (Memref.isWhole_whole _) (Memref.whole main_v24) (Memref.isWhole_whole _)
    (spec0_0.stage ((cfgm m).slots t 0)) (hstage0_0 (((cfgm m).slots t 0).cast nbuf0_0))
    (spec0_1.stage ((cfgm m).slots t 1)) (hstage0_1 (((cfgm m).slots t 1).cast nbuf0_1))
    (spec0_2.stage ((cfgm m).slots t 2)) (hstage0_2 (((cfgm m).slots t 2).cast nbuf0_2))
    (spec0_3.stage ((cfgm m).slots t 3)) (hstage0_3 (((cfgm m).slots t 3).cast nbuf0_3))
    (Memref.whole cc0_scratch0) (Memref.isWhole_whole _)

/-- What the body is called with at point `t`, -/
def bodyPre (c : Dev nD) (t : Fin (cfgm m).N) : sProp 𝕄 :=
  iprop((dats m 0 c).Φ t.castSucc ∗ (dats m 0 c).owesAt () t.castSucc
    ∗ (∃ d, owns (c : Thread nD τ) (stg m 0 t) fullShare ((dats m 0 c).before 0 t d))
    ∗ (∃ d, owns (c : Thread nD τ) (stg m 1 t) fullShare ((dats m 0 c).before 1 t d))
    ∗ (∃ d, owns (c : Thread nD τ) (stg m 2 t) fullShare ((dats m 0 c).before 2 t d))
    ∗ (∃ d, owns (c : Thread nD τ) (stg m 3 t) fullShare ((dats m 0 c).before 3 t d)))

/-- and what it returns. -/
def bodyPost (c : Dev nD) (t : Fin (cfgm m).N) : sProp 𝕄 :=
  iprop((dats m 0 c).Φ t.succ ∗ (dats m 0 c).owesAt () t.succ
    ∗ owns (c : Thread nD τ) (stg m 0 t) fullShare ((dats m 0 c).after 0 t)
    ∗ owns (c : Thread nD τ) (stg m 1 t) fullShare ((dats m 0 c).after 1 t)
    ∗ owns (c : Thread nD τ) (stg m 2 t) fullShare ((dats m 0 c).after 2 t)
    ∗ owns (c : Thread nD τ) (stg m 3 t) fullShare ((dats m 0 c).after 3 t))

/-- The three tables, one by one. -/
theorem bigSep_T {M : Type} [URA M] (Φ : Fin 3 → sProp M) : bigSep Finset.univ Φ = iprop(Φ (0 : Fin 3) ∗ Φ (1 : Fin 3) ∗ Φ (2 : Fin 3)) :=
  bigSep_univ_eq_bigSepL [(0 : Fin 3), (1 : Fin 3), (2 : Fin 3)] (by decide) (by decide) Φ

/-- Any contents of the tables' buffers, one by one. -/
theorem tables_any (c : Dev nD) (W : (b : Ref sig .tc) → Buf (Elt F) ((c : Thread nD τ).loc b)) :
    (Pipeline.ΦT pre0 (fun k => W (pre0.ref k)) c : sProp 𝕄)
    = iprop((((Memref.whole main_v19).view.loc (c : Thread nD τ)) ↦{fullShare.right} W main_v19)
      ∗ (((Memref.whole main_v20).view.loc (c : Thread nD τ)) ↦{fullShare.right} W main_v20)
      ∗ (((Memref.whole main_v24).view.loc (c : Thread nD τ)) ↦{fullShare.right} W main_v24)) := by
  unfold Pipeline.ΦT Pipeline.prefHeld
  exact bigSep_T _

/-- The tables as the body holds them: half of each, at its contents. -/
theorem tables_eq (c : Dev nD) : (Pipeline.ΦT pre0 ((adm m) 0).1 c : sProp 𝕄)
    = iprop((((Memref.whole main_v19).view.loc (c : Thread nD τ)) ↦{fullShare.right} V m c main_v19)
      ∗ (((Memref.whole main_v20).view.loc (c : Thread nD τ)) ↦{fullShare.right} V m c main_v20)
      ∗ (((Memref.whole main_v24).view.loc (c : Thread nD τ)) ↦{fullShare.right} V m c main_v24)) := by
  obtain rfl : c = 0 := Subsingleton.elim _ _
  exact tables_any 0 (V m 0)

/-- The scratch accumulator at some contents, and the core's register. -/
theorem scratch_eq (c : Dev nD) : (Pipeline.ΦA spec0 c : sProp 𝕄)
    = iprop((∃ f, ((Memref.whole cc0_scratch0).view.loc (c : Thread nD τ)) ↦{fullShare} f) ∗ ∃ r, prngReg c r) := by
  unfold Pipeline.ΦA
  rw [scopedRest0_eq]

set_option maxHeartbeats 1600000 in
/-- The body at any point. -/
theorem sound_body (hT : TablesOk m) (c : Dev nD) (t : Fin (cfgm m).N) :
    bodyPre m c t ⊢ wp frame (wpE (defs₀ (F := F)) 𝒱₀ c none) Set.univ (bodyAt m t) (fun _ => bodyPost m c t) := by
  unfold bodyPre bodyPost bodyAt
  simp only [before0_0, before0_1, before0_2]
  rw [show (dats m 0 c).Φ t.succ = iprop(Pipeline.ΦA spec0 c ∗ Pipeline.ΦT pre0 ((adm m) 0).1 c) from rfl,
    show (dats m 0 c).Φ t.castSucc = iprop(Pipeline.ΦA spec0 c ∗ Pipeline.ΦT pre0 ((adm m) 0).1 c) from rfl,
    show (dats m 0 c).owesAt () t.succ = (dats m 0 c).owesAt () t.castSucc from rfl,
    after0_0, after0_1, after0_2, after0_3, tables_eq, scratch_eq]
  iintro ⟨⟨⟨⟨%f8, H8⟩, Hr⟩, HT1, HT2, HT3⟩, Ho, ⟨%d0, H0⟩, ⟨%d1, H1⟩, ⟨%d2, H2⟩, ⟨%d3, H3⟩⟩
  iapply (sound_kernel c fullShare.right (grid0.coords t) (Memref.whole main_v19) (Memref.isWhole_whole _) (Memref.whole main_v20) (Memref.isWhole_whole _) (Memref.whole main_v24) (Memref.isWhole_whole _)
    (spec0_0.stage ((cfgm m).slots t 0)) (hstage0_0 (((cfgm m).slots t 0).cast nbuf0_0))
    (spec0_1.stage ((cfgm m).slots t 1)) (hstage0_1 (((cfgm m).slots t 1).cast nbuf0_1))
    (spec0_2.stage ((cfgm m).slots t 2)) (hstage0_2 (((cfgm m).slots t 2).cast nbuf0_2))
    (spec0_3.stage ((cfgm m).slots t 3)) (hstage0_3 (((cfgm m).slots t 3).cast nbuf0_3))
    (Memref.whole cc0_scratch0) (Memref.isWhole_whole _) (V m c main_v19) (V m c main_v20) (V m c main_v24) f8
    (iblk m c 0 t) (iblk m c 1 t) (iblk m c 2 t) (hT c (grid0.coords t)) _)
  isplitl [HT1]; · iexact HT1
  isplitl [HT2]; · iexact HT2
  isplitl [HT3]; · iexact HT3
  isplitl [H0]; · iexact H0
  isplitl [H1]; · iexact H1
  isplitl [H2]; · iexact H2
  isplitl [H3]; · iexists _; iexact H3
  isplitl [H8]; · iexact H8
  iintro ⟨HT1, HT2, HT3, H0, H1, H2, H3, H8⟩
  isplitl [H8 Hr HT1 HT2 HT3]
  · isplitl [H8 Hr]
    · isplitl [H8]; · iexact H8
      iexact Hr
    isplitl [HT1]; · iexact HT1
    isplitl [HT2]; · iexact HT2
    iexact HT3
  isplitl [Ho]; · iexact Ho
  isplitl [H0]; · iexact H0
  isplitl [H1]; · iexact H1
  isplitl [H2]; · iexact H2
  iexact H3

/-- The body table's row at point `t`'s slots. -/
theorem defs₀_row (t : Fin (cfgm m).N) :
    defs₀ (F := F) .tc (cfgm m).body ((cfgm m).bodyArgs t ((cfgm m).slots t)) = bodyAt m t := by
  unfold defs₀; rw [Defs.onTc_tc]

/-- The library's body obligation, at every point. -/
theorem body_obligation (hT : TablesOk m) (c : Dev nD) : BodyObligation (dats (F := F) m 0 c) (defs₀ (F := F)) 𝒱₀ () Set.univ := fun t => by
  rw [bigSep_W0, bigSep_W0, defs₀_row]
  exact triple_restated (sound_body m hT c t) rfl .rfl fun _ => .rfl

/-! ## The run -/

set_option backward.isDefEq.respectTransparency.types false in
set_option maxHeartbeats 800000 in
/-- The launch: every array at what the pipeline leaves, every other buffer as the host lines left it, every counter at zero. -/
theorem run_main (hT : TablesOk m) : θ_run defs (onTc (τ := τ) (main (F := F))) (s₀ m ρ)
    (fun r => Pipeline.FramePost (Pipeline.pin pcfgs (adm m)) (dats m) 0 (V m) r ∧ r.2.sem = fun _ => 0) :=
  Pipeline.θ_run_frameP (Q' := _) pcfgs (adm m) (dats m) (0 : Fin 1) launch0 defs₀ 𝒱₀ m ρ main
    (hbody := fun c => (body_obligation m hT c).loose) (hshare := fun c => (dats m 0 c).share_full fun _ => rfl)
    (howed := fun _ _ => rfl) (V := V m) (hmain := hmain m) (hA := A_eq m)
    (hpf := fun c k => by obtain rfl : c = 0 := Subsingleton.elim _ _; rfl) (hΦ := fun _ _ => rfl)

/-- The arguments at the end of a run are as they were. -/
theorem args_of (r : PUnit × MemSt nD τ sig (Elt F)) (h : Pipeline.FramePost (Pipeline.pin pcfgs (adm m)) (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨(((h c).2 main_arg0 (Pipeline.mem_restRefs_of main_arg0 (by decide) (show ∀ w : Fin 4, (spec0 w).arr.view.ref ≠ main_arg0 from by decide))).trans (V_main_arg0 m c)),
    (((h c).2 main_arg1 (Pipeline.mem_restRefs_of main_arg1 (by decide) (show ∀ w : Fin 4, (spec0 w).arr.view.ref ≠ main_arg1 from by decide))).trans (V_main_arg1 m c)),
    (((h c).2 main_arg2 (Pipeline.mem_restRefs_of main_arg2 (by decide) (show ∀ w : Fin 4, (spec0 w).arr.view.ref ≠ main_arg2 from by decide))).trans (V_main_arg2 m c)),
    ((h c).1 2).trans (((dats m 0 c).arrAt_in 2 rfl _).trans ((A_eq m c 2).trans (V_main_arg3 m c))),
    ((h c).1 0).trans (((dats m 0 c).arrAt_in 0 rfl _).trans ((A_eq m c 0).trans (V_main_arg4 m c)))⟩

/-- The frame claim, given the tables' words in range. -/
theorem frame_of (hT : TablesOk m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun r h => ⟨fun c => args_of m r h.1 c, h.2⟩) (run_main m ρ hT)

end Cert.Proof.KernelIdeal

end
-- ==== Proof.TablesIdeal.lean ====
/- What the host lines make of the two index arguments: the table of each block column's entries, its rows' sorting order,
   the entries in that order and their number. -/
module

public import proofs.«01_k».proof.Proof.Gen.KernelIdeal
public import Idealize.ShloMosaic.Lib.ValueIdxCore

@[expose] public section

noncomputable section

namespace Cert.Proof.KernelIdeal

open Cert.KernelIdeal Cert.KernelIdeal.Gen
open Idealize.ShloMosaic
open Idealize.ShloMosaic.ValueIdx (ix1 ix2 ix3)

/-- A word in every place of a vector of entries. -/
abbrev fill1243 (w : BitVec 32) : IVec S1243 32 := broadcastInDim S1243 ![] bcast_S_S1243 (constantI S_ 32 w)
/-- A word in every place of a table. -/
abbrev fillT (w : BitVec 32) : IVec S148x28 32 := broadcastInDim S148x28 ![] bcast_S_S148x28 (constantI S_ 32 w)

/-- Each entry's row block: the number of row starts at or below it, less one. -/
def rowOf (a1 : IVec S29 32) : IVec S1243 32 :=
  subi (Host.reduce IntOp.addi (extui 32 (cmpi .sle
      (broadcastInDim S29x1243 ![0, 1] bcast_S29x1_S29x1243_0_1 (broadcastInDim S29x1 ![0] bcast_S29_S29x1_0 a1))
      (broadcastInDim S29x1243 ![0, 1] bcast_S1x1243_S29x1243_0_1 (broadcastInDim S1x1243 ![1] bcast_S1243_S1x1243_1 (iotaInDim S1243 32 0)))) natLt_1_32)
    (constantI S_ 32 0#32) reducesTo_S29x1243_S1243_d0 h_S_) (fill1243 1#32)

/-- An index word, `n` added when it is negative. -/
def wrap (n : BitVec 32) (x : IVec S1243 32) : IVec S1243 32 := select (cmpi .slt x (fill1243 0#32)) (addi x (fill1243 n)) x

/-- Each entry's place in the table: its column and row block. -/
def places (a1 : IVec S29 32) (a2 : IVec S1243 32) : IVec S1243x2 32 :=
  concatenate S1243x2 1 [⟨S1243x1, broadcastInDim S1243x1 ![0] bcast_S1243_S1243x1_0 (wrap 148#32 a2)⟩,
    ⟨S1243x1, broadcastInDim S1243x1 ![0] bcast_S1243_S1243x1_0 (wrap 28#32 (rowOf a1))⟩] concatenates_S1243x1_S1243x1_S1243x2_d1

/-- The table of entries: at (column, row block) the last entry placed there, 1243 where there is none. -/
def dense (a1 : IVec S29 32) (a2 : IVec S1243 32) : IVec S148x28 32 :=
  Host.scatter scatter_S148x28_S1243x2_S1243_n_01_01_1 (fun _ b => b) (fillT 1243#32) (places a1 a2) (iotaInDim S1243 32 0)

/-- Each row's sorting order. -/
def order (D : IVec S148x28 32) : IVec S148x28 32 := (Host.sort2 S148x28 1 comparator_i32_i32_d1 D (iotaInDim S148x28 32 1)).2

/-- The positions at which the sorted entries are taken. -/
def takeAt (O : IVec S148x28 32) : IVec S148x28x1 32 :=
  shapeCast S148x28x1 (select (cmpi .slt O (fillT 0#32)) (addi O (fillT 28#32)) O) shapeCasts_S148x28_S148x28x1

/-- The entries in sorting order. -/
def ents (D O : IVec S148x28 32) : IVec S148x28 32 :=
  select (Host.reduce IntOp.andi (andi (cmpi .sge (takeAt O) (broadcastInDim S148x28x1 ![] bcast_S_S148x28x1 (constantI S_ 32 0#32)))
      (cmpi .sle (takeAt O) (broadcastInDim S148x28x1 ![0, 1, 2] bcast_S1x1x1_S148x28x1_0_1_2 (broadcastInDim S1x1x1 ![2] bcast_S1_S1x1x1_2 (constantI S1 32 27#32)))))
      (constantI S_ 1 1#1) reducesTo_S148x28x1_S148x28_d2 h_S_)
    (Host.gather gather_S148x28_S148x28x1_S148x28_n_1_0_0_1_2_11 D (takeAt O)) (fillT 2147483648#32)

/-- How many entries each block column has. -/
def cnts (D : IVec S148x28 32) : IVec S148 32 :=
  Host.reduce IntOp.addi (extui 32 (cmpi .slt D (fillT 1243#32)) natLt_1_32) (constantI S_ 32 0#32) reducesTo_S148x28_S148_d1 h_S_

end Cert.Proof.KernelIdeal

end
-- ==== Proof.ReadIdeal.lean ====
/- The host lines read: what the region finds in the tables and in the activations' buffer is the table functions of the
   index arguments. -/
module

public import proofs.«01_k».proof.Proof.RunIdeal
public import proofs.«01_k».proof.Proof.TablesIdeal
public import Idealize.ShloMosaic.Lib.StableHlo.Run
public import Idealize.ShloMosaic.Lib.StableHlo.RunRead

@[expose] public section

set_option maxRecDepth 65536

noncomputable section

namespace Cert.Proof.KernelIdeal

open Cert.KernelIdeal Cert.KernelIdeal.Gen
open Idealize.ShloMosaic Idealize.ShloMosaic.TcCoe Idealize.ShloMosaic.Tactic
open Idealize.ShloMosaic.ValueIdx (ix1 ix2 ix3)

variable {F : FTy → Type} [FloatOps F]

variable (m : (ℓ : Loc nD τ sig) → Buf (Elt F) ℓ) (c : Dev nD)

/-- The table of entries, on the arguments of core `c`. -/
abbrev denseM : IVec S148x28 32 := dense (m ((c : Thread nD τ).loc main_arg1)) (m ((c : Thread nD τ).loc main_arg2))

/-- A line of operations in two parts. -/
theorem after_two (l₁ l₂ : List (HloOp τ sig (Elt F))) (W : Valuation τ sig (Elt F)) : StableHlo.after (l₁ ++ l₂) W = StableHlo.after l₂ (StableHlo.after l₁ W) := by
  induction l₁ generalizing W with
  | nil => rfl
  | cons op l ih => exact ih _

/-- The buffers when the table of entries is made. -/
abbrev W2 : Valuation τ sig (Elt F) := StableHlo.after (hostOps0 ++ (hostOps0_1 ++ hostOps0_2)) (fun b => m (c, b))

theorem V_split (b : Ref sig .tc) : V m c b = StableHlo.after hostOps0_5 (StableHlo.after hostOps0_4 (StableHlo.after hostOps0_3 (W2 m c))) (Proc.devRef .tc b) := by
  unfold V V0 W2
  rw [show List.flatten [hostOps0, hostOps0_1, hostOps0_2, hostOps0_3, hostOps0_4, hostOps0_5]
    = (hostOps0 ++ (hostOps0_1 ++ hostOps0_2)) ++ (hostOps0_3 ++ (hostOps0_4 ++ (hostOps0_5 : List (HloOp τ sig (Elt F))))) from rfl,
    after_two, after_two, after_two]

set_option maxHeartbeats 4000000 in
theorem W2_v18 : W2 m c (Proc.devRef .tc main_v18) = denseM m c := by
  unfold W2
  after_reads_simp
  rfl

section Later
variable (W : Valuation τ sig (Elt F))

set_option maxHeartbeats 400000 in
theorem sort_v19 : StableHlo.after hostOps0_3 W (Proc.devRef .tc main_v19) = order (W (Proc.devRef .tc main_v18)) := by
  after_reads_simp
  generalize W (Proc.devRef .tc main_v18) = D
  unfold order
  rfl

theorem sort_v18 : StableHlo.after hostOps0_3 W (Proc.devRef .tc main_v18) = W (Proc.devRef .tc main_v18) := by
  after_reads_simp

theorem sort_arg0 : StableHlo.after hostOps0_3 W (Proc.devRef .tc main_arg0) = W (Proc.devRef .tc main_arg0) := by
  after_reads_simp

set_option maxHeartbeats 400000 in
theorem take_v20 :
    StableHlo.after hostOps0_4 W (Proc.devRef .tc main_v20) = ents (W (Proc.devRef .tc main_v18)) (W (Proc.devRef .tc main_v19)) := by
  after_reads_simp
  generalize W (Proc.devRef .tc main_v18) = D
  generalize W (Proc.devRef .tc main_v19) = O
  unfold ents takeAt
  rfl

theorem take_v18 : StableHlo.after hostOps0_4 W (Proc.devRef .tc main_v18) = W (Proc.devRef .tc main_v18) := by
  after_reads_simp

theorem take_v19 : StableHlo.after hostOps0_4 W (Proc.devRef .tc main_v19) = W (Proc.devRef .tc main_v19) := by
  after_reads_simp

theorem take_arg0 : StableHlo.after hostOps0_4 W (Proc.devRef .tc main_arg0) = W (Proc.devRef .tc main_arg0) := by
  after_reads_simp

theorem count_v19 : StableHlo.after hostOps0_5 W (Proc.devRef .tc main_v19) = W (Proc.devRef .tc main_v19) := by
  after_reads_simp

theorem count_v20 : StableHlo.after hostOps0_5 W (Proc.devRef .tc main_v20) = W (Proc.devRef .tc main_v20) := by
  after_reads_simp

set_option maxHeartbeats 400000 in
theorem count_v24 : StableHlo.after hostOps0_5 W (Proc.devRef .tc main_v24) = cnts (W (Proc.devRef .tc main_v18)) := by
  after_reads_simp
  generalize W (Proc.devRef .tc main_v18) = D
  unfold cnts
  rfl

theorem count_v25 : StableHlo.after hostOps0_5 W (Proc.devRef .tc main_v25)
    = shapeCast S1024x3584 (W (Proc.devRef .tc main_arg0)) shapeCasts_S1x1024x3584_S1024x3584 := by
  after_reads_simp
  rfl

end Later

set_option maxHeartbeats 4000000 in
theorem W2_arg0 : W2 m c (Proc.devRef .tc main_arg0) = m ((c : Thread nD τ).loc main_arg0) := by
  unfold W2
  after_reads_simp

/-- The orders the region reads, -/
theorem V_v19 : V m c main_v19 = order (denseM m c) := by
  rw [V_split, count_v19, take_v19, sort_v19, W2_v18]
/-- the entries in that order, -/
theorem V_v20 : V m c main_v20 = ents (denseM m c) (order (denseM m c)) := by
  rw [V_split, count_v20, take_v20, sort_v18, sort_v19, W2_v18]
/-- their numbers, -/
theorem V_v24 : V m c main_v24 = cnts (denseM m c) := by
  rw [V_split, count_v24, take_v18, sort_v18, W2_v18]
/-- and the activations. -/
theorem V_v25 : V m c main_v25 = shapeCast S1024x3584 (m ((c : Thread nD τ).loc main_arg0)) shapeCasts_S1x1024x3584_S1024x3584 := by
  rw [V_split, count_v25, take_arg0, sort_arg0, W2_arg0]

end Cert.Proof.KernelIdeal

end
-- ==== Proof.SortIdeal.lean ====
/- The tables' words: an entry's number or 1243 in every place of the table of entries; each row's order a permutation that
   puts the entries before the empty places; the entries taken in that order; their number. -/
module

public import proofs.«01_k».proof.Proof.TablesIdeal
public import Idealize.ShloMosaic.Lib.SortFacts
public import Idealize.ShloMosaic.Lib.ReduceAll
public import Idealize.ShloMosaic.Lib.WordCmp
public import Idealize.ShloMosaic.Lib.Routing.OpsOrder
public import Idealize.ShloMosaic.Lib.StableHlo.Predicate
public import Idealize.ShloMosaic.Lib.Pipeline.Value

@[expose] public section

noncomputable section

namespace Cert.Proof.KernelIdeal

open Cert.KernelIdeal Cert.KernelIdeal.Gen
open Idealize.ShloMosaic
open Idealize.ShloMosaic.ValueIdx (ix1 ix2 ix3)

/-! ## Counting along a sorted row -/

/-- A downward closed set of positions is the positions below its size. -/
theorem lower_iff {n : ℕ} (P : Fin n → Prop) [DecidablePred P] (hP : ∀ i j, i ≤ j → P j → P i) (i : Fin n) :
    P i ↔ i.val < (Finset.univ.filter P).card := by
  constructor
  · intro h
    have hs : Finset.Iic i ⊆ Finset.univ.filter P := fun j hj => Finset.mem_filter.2 ⟨Finset.mem_univ _, hP _ _ (Finset.mem_Iic.1 hj) h⟩
    have := Finset.card_le_card hs
    rw [Fin.card_Iic] at this
    omega
  · intro h
    by_contra hn
    have hs : Finset.univ.filter P ⊆ Finset.Iio i := fun j hj => by
      rw [Finset.mem_Iio]
      by_contra hle
      exact hn (hP _ _ (not_lt.1 hle) (Finset.mem_filter.1 hj).2)
    have := Finset.card_le_card hs
    rw [Fin.card_Iio] at this
    omega

/-! ## The table of entries -/

variable (a1 : IVec S29 32) (a2 : IVec S1243 32)

/-- Every word of the table is at most 1243. -/
theorem dense_le (i : S148x28.Idx) : (dense a1 a2 i).toNat ≤ 1243 := by
  unfold dense
  refine Routing.scatter_forall _ _ (fun w : BitVec 32 => w.toNat ≤ 1243) (fun _ _ _ h => h) _ _ _ (fun _ => ?_) (fun j => ?_) i
  · show (1243#32).toNat ≤ 1243
    decide
  · show (BitVec.ofNat 32 (j 0).val).toNat ≤ 1243
    have : (j 0).val < 1243 := (j 0).isLt
    rw [BitVec.toNat_ofNat]
    omega

/-! ## A row's order -/

variable (D : IVec S148x28 32) (hD : ∀ i, (D i).toNat ≤ 1243)

/-- Row `j`'s sort: position `i` holds the place `perm D j i`. -/
def perm (j : Fin 148) : Fin 28 → Fin 28 :=
  sortedFrom fun a b => IntOp.cmpi .slt (D (ix2 j a)) (D (ix2 j b)) == 1#1

theorem perm_injective (j : Fin 148) : Function.Injective (perm D j) := sortedFrom_injective _
theorem perm_bijective (j : Fin 148) : Function.Bijective (perm D j) := Finite.injective_iff_bijective.1 (perm_injective D j)

theorem along_eq (j : Fin 148) (i k : Fin 28) : (ix2 j i : S148x28.Idx).along (1 : Fin 2) k = (ix2 j k : S148x28.Idx) := by
  funext b
  match b with
  | ⟨0, _⟩ => rfl
  | ⟨1, _⟩ => rfl

theorem order_at (j : Fin 148) (i : Fin 28) : order D (ix2 j i) = BitVec.ofNat 32 (perm D j i).val := by
  have hb : (fun a b : Fin 28 => comparator_i32_i32_d1
      (D ((ix2 j i : S148x28.Idx).along (1 : Fin 2) a), iotaInDim S148x28 32 1 ((ix2 j i : S148x28.Idx).along (1 : Fin 2) a))
      (D ((ix2 j i : S148x28.Idx).along (1 : Fin 2) b), iotaInDim S148x28 32 1 ((ix2 j i : S148x28.Idx).along (1 : Fin 2) b)) == 1#1)
      = fun a b => IntOp.cmpi .slt (D (ix2 j a)) (D (ix2 j b)) == 1#1 := by
    funext a b
    rw [along_eq, along_eq]
    rfl
  have h1 : order D (ix2 j i) = iotaInDim S148x28 32 1 ((ix2 j i : S148x28.Idx).along (1 : Fin 2) (sortedFrom (n := 28) (fun a b : Fin 28 => comparator_i32_i32_d1
      (D ((ix2 j i : S148x28.Idx).along (1 : Fin 2) a), iotaInDim S148x28 32 1 ((ix2 j i : S148x28.Idx).along (1 : Fin 2) a))
      (D ((ix2 j i : S148x28.Idx).along (1 : Fin 2) b), iotaInDim S148x28 32 1 ((ix2 j i : S148x28.Idx).along (1 : Fin 2) b)) == 1#1) i)) := by
    unfold order Host.sort2
    rw [dif_pos (by decide : 1 < S148x28.rank)]
    rfl
  rw [h1, hb, along_eq]
  rfl

theorem toInt_of_le (x : BitVec 32) (hx : x.toNat ≤ 1243) : x.toInt = x.toNat := BitVec.toInt_eq_toNat_of_lt (by omega)

theorem slt_iff (x y : BitVec 32) (hx : x.toNat ≤ 1243) (hy : y.toNat ≤ 1243) : IntOp.cmpi .slt x y = 1#1 ↔ x.toNat < y.toNat := by
  rw [IntOp.cmpi_slt, toInt_of_le x hx, toInt_of_le y hy]
  omega

/-- The words ascend along the order. -/
theorem perm_mono (hD : ∀ i, (D i).toNat ≤ 1243) (j : Fin 148) (a b : Fin 28) (h : a ≤ b) : (D (ix2 j (perm D j a))).toNat ≤ (D (ix2 j (perm D j b))).toNat := by
  rcases eq_or_lt_of_le h with rfl | h
  · exact le_rfl
  have key : ∀ x y : Fin 28, (IntOp.cmpi .slt (D (ix2 j x)) (D (ix2 j y)) == 1#1) = decide ((D (ix2 j x)).toNat < (D (ix2 j y)).toNat) := fun x y => by
    rw [Bool.eq_iff_iff, beq_iff_eq, decide_eq_true_iff, slt_iff _ _ (hD _) (hD _)]
  have := sortedFrom_noInversion (fun a b : Fin 28 => IntOp.cmpi .slt (D (ix2 j a)) (D (ix2 j b)) == 1#1)
    (fun a b : Fin 28 => IntOp.cmpi .slt (D (ix2 j a)) (D (ix2 j b)) == 1#1)
    (fun a b h => by rw [key, decide_eq_true_iff] at h; rw [key, decide_eq_false_iff_not]; omega) (fun _ _ h => h)
    (fun a b c h₁ h₂ => by rw [key, decide_eq_false_iff_not] at *; omega) a b h
  rw [key, decide_eq_false_iff_not] at this
  exact not_lt.1 this

/-- The number of entries of block column `j`. -/
theorem cnts_at (hD : ∀ i, (D i).toNat ≤ 1243) (j : Fin 148) :
    (cnts D (ix1 j)).toNat = (Finset.univ.filter fun k : Fin 28 => (D (ix2 j k)).toNat < 1243).card := by
  unfold cnts
  have := StableHlo.Predicate.toNat_reduce_count_cols (n := 148) (m := 28) (by decide) (cmpi .slt D (fillT 1243#32)) natLt_1_32 reducesTo_S148x28_S148_d1 h_S_ (ix1 j)
  refine this.trans (congrArg Finset.card (Finset.filter_congr fun k _ => ?_))
  have e : StableHlo.Predicate.ij ((ix1 j : (⟨1, ![148]⟩ : Shape).Idx) 0) k = ix2 j k := by
    funext b
    match b with
    | ⟨0, _⟩ => rfl
    | ⟨1, _⟩ => rfl
  exact (iff_of_eq (congrArg (fun x => cmpi .slt D (fillT 1243#32) x = 1#1) e)).trans (slt_iff _ 1243#32 (hD _) (by decide))

theorem cnts_le (hD : ∀ i, (D i).toNat ≤ 1243) (j : Fin 148) : (cnts D (ix1 j)).toNat ≤ 28 := by
  rw [cnts_at D hD]
  exact (Finset.card_le_univ _).trans (by simp)

/-- Along the order the entries come first: position `i` holds one exactly when it is below their number. -/
theorem entry_iff (hD : ∀ i, (D i).toNat ≤ 1243) (j : Fin 148) (i : Fin 28) :
    (D (ix2 j (perm D j i))).toNat < 1243 ↔ i.val < (cnts D (ix1 j)).toNat := by
  rw [lower_iff (fun i => (D (ix2 j (perm D j i))).toNat < 1243) (fun a b h hb => lt_of_le_of_lt (perm_mono D hD j a b h) hb) i, cnts_at D hD]
  have : (Finset.univ.filter fun i => (D (ix2 j (perm D j i))).toNat < 1243).card = (Finset.univ.filter fun k : Fin 28 => (D (ix2 j k)).toNat < 1243).card :=
    Finset.card_bijective (perm D j) (perm_bijective D j) fun i => by simp only [Finset.mem_filter, Finset.mem_univ, true_and]
  rw [this]

/-! ## The entries in the order -/

/-- A position's word is taken as it is. -/
theorem takeAt_at (O : IVec S148x28 32) (j : Fin 148) (i : Fin 28) (u : Fin 1) (h : (O (ix2 j i)).toNat < 28) : takeAt O (ix3 j i u) = O (ix2 j i) := by
  unfold takeAt
  rw [shapeCast_apply _ _ (ix3 j i u : S148x28x1.Idx) (ix2 j i : S148x28.Idx) (by
    rw [Shape.rowMajor_val_three, Shape.rowMajor_val_two]
    show j.val * 28 + i.val = (j.val * 28 + i.val) * 1 + u.val
    omega)]
  show (if IntOp.cmpi .slt (O (ix2 j i)) 0#32 = 1#1 then _ else O (ix2 j i)) = _
  rw [if_neg]
  rw [IntOp.cmpi_slt, toInt_of_le _ (by omega)]
  simp

/-- The gather along a table's rows read at an index. -/
theorem gather_at (O : IVec S148x28x1 32) (j : Fin 148) (i k : Fin 28) (h : (O (ix3 j i 0)).toNat = k.val) :
    Host.gather gather_S148x28_S148x28x1_S148x28_n_1_0_0_1_2_11 D O (ix2 j i) = D (ix2 j k) := by
  unfold Host.gather
  congr 1
  funext a
  refine Fin.ext ?_
  show gather_S148x28_S148x28x1_S148x28_n_1_0_0_1_2_11.start (ix2 j i) O a + gather_S148x28_S148x28x1_S148x28_n_1_0_0_1_2_11.batchCoord (ix2 j i) a
      + gather_S148x28_S148x28x1_S148x28_n_1_0_0_1_2_11.offCoord (ix2 j i) a = _
  have h01 : a = 1 ∨ a = 0 := by
    match a with
    | ⟨0, _⟩ => exact Or.inr rfl
    | ⟨1, _⟩ => exact Or.inl rfl
  rcases h01 with rfl | rfl
  · rw [GatherDims.batchCoord_eq_zero _ _ _ (fun h => absurd (List.mem_singleton.1 h) (by decide : (1 : Fin 2) ≠ 0)),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S148x28_S148x28x1_S148x28_n_1_0_0_1_2_11.startIndexMap from List.mem_singleton.mpr rfl)]
    have hsi : gather_S148x28_S148x28x1_S148x28_n_1_0_0_1_2_11.siIdx (ix2 j i) ⟨List.idxOf (1 : Fin 2) gather_S148x28_S148x28x1_S148x28_n_1_0_0_1_2_11.startIndexMap,
        List.idxOf_lt_length_iff.2 (List.mem_singleton.mpr rfl)⟩ = ix3 j i 0 := by
      funext b; refine Fin.ext ?_
      match b with
      | ⟨0, _⟩ => rfl
      | ⟨1, _⟩ => rfl
      | ⟨2, _⟩ => rfl
    rw [hsi, toInt_of_le _ (by have := k.isLt; omega), h]
    show min (k.val : Int).toNat (28 - 1) = k.val
    have := k.isLt
    omega
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ gather_S148x28_S148x28x1_S148x28_n_1_0_0_1_2_11.operandBatchingDims from List.mem_singleton.mpr rfl)]
    rfl

/-- The entry at position `i` of block column `j`. -/
theorem ents_at (j : Fin 148) (i : Fin 28) : ents D (order D) (ix2 j i) = D (ix2 j (perm D j i)) := by
  have ho : ∀ j i, (order D (ix2 j i)).toNat = (perm D j i).val := fun j i => by
    rw [order_at, BitVec.toNat_ofNat]
    have := (perm D j i).isLt
    omega
  have ht : ∀ x, (takeAt (order D) x).toNat < 28 := fun x => by
    have hx : x = (ix3 (x 0) (x 1) (x 2) : S148x28x1.Idx) := ValueIdx.eq_ix3 x
    have hi : ∀ (a : Fin 148) (b : Fin 28), (order D (ix2 a b)).toNat < 28 := fun a b => by rw [ho]; exact (perm D _ _).isLt
    have h3 : ∀ (a : Fin 148) (b : Fin 28) (u : Fin 1), (takeAt (order D) (ix3 a b u)).toNat < 28 := fun a b u => by
      rw [takeAt_at _ _ _ _ (hi a b)]
      exact hi a b
    exact lt_of_eq_of_lt (congrArg (fun y => (takeAt (order D) y).toNat) hx) (h3 _ _ _)
  unfold ents
  show (if _ = 1#1 then _ else _) = _
  rw [if_pos]
  · refine gather_at D _ j i (perm D j i) ?_
    rw [takeAt_at _ _ _ _ (by rw [ho]; exact (perm D j i).isLt), ho]
  · refine Host.reduce_andi_one _ _ _ _ _ rfl fun x => ?_
    show IntOp.andi (IntOp.cmpi .sge (takeAt (order D) x) 0#32) (IntOp.cmpi .sle (takeAt (order D) x) 27#32) = 1#1
    have h28 := ht x
    rw [IntOp.andi_eq_one, IntOp.cmpi_sge, IntOp.cmpi_sle]
    have h0 : (takeAt (order D) x).toInt = (takeAt (order D) x).toNat := toInt_of_le _ (by omega)
    rw [h0]
    exact ⟨Int.natCast_nonneg _, Int.ofNat_le.2 (by omega : (takeAt (order D) x).toNat ≤ 27)⟩

end Cert.Proof.KernelIdeal

end
-- ==== Proof.OkIdeal.lean ====
/- The tables' words are in range on every input, so the kernel's program leaves its arguments as they were. -/
module

public import proofs.«01_k».proof.Proof.ReadIdeal
public import proofs.«01_k».proof.Proof.SortIdeal

@[expose] public section

noncomputable section

namespace Cert.Proof.KernelIdeal

open Cert.KernelIdeal Cert.KernelIdeal.Gen
open Idealize.ShloMosaic Idealize.ShloMosaic.TcCoe
open Idealize.ShloMosaic.ValueIdx (ix1 ix2 ix3)

/-- The words that block column `i` reads, for any table of entries. -/
theorem words_ok (D : IVec S148x28 32) (hD : ∀ i, (D i).toNat ≤ 1243) (i : grid0.Coords) : WordsOk (order D) (ents D (order D)) (cnts D) i := by
  have hc := cnts_le D hD (i 0)
  refine ⟨hc, fun k hk => ?_⟩
  have h28 : k < 28 := lt_of_lt_of_le hk hc
  unfold word
  rw [dif_pos h28, dif_pos h28]
  have ho := order_at D (i 0) ⟨k, h28⟩
  have he := ents_at D (i 0) ⟨k, h28⟩
  have hp := (perm D (i 0) ⟨k, h28⟩).isLt
  have hn : (BitVec.ofNat 32 (perm D (i 0) ⟨k, h28⟩).val).toNat < 28 := by rw [BitVec.toNat_ofNat]; omega
  exact ⟨lt_of_eq_of_lt (congrArg BitVec.toNat ho) hn, lt_of_eq_of_lt (congrArg BitVec.toNat he) ((entry_iff D hD (i 0) ⟨k, h28⟩).2 hk)⟩

variable {F : FTy → Type} [FloatOps F] (m : (ℓ : Loc nD τ sig) → Buf (Elt F) ℓ) (ρ : Dev nD → PrngReg)

theorem dense_ok (c : Dev nD) (i : S148x28.Idx) : (denseM m c i).toNat ≤ 1243 := dense_le _ _ i

/-- On every input the tables' words are in range. -/
theorem tables_ok : TablesOk m := fun c i => by
  rw [V_v19, V_v20, V_v24]
  exact words_ok (denseM m c) (dense_ok m c) i

end Cert.Proof.KernelIdeal

end
-- ==== Proof.LastWriter.lean ====
/- A scatter that sets, read at an element where updates may collide: the operand's element when no update lands there, else the
   last landing update in row-major order. -/
module

public import Idealize.ShloMosaic.Lib.Routing.OpsSet
public import Idealize.ShloMosaic.Lib.Routing.OpsPair

@[expose] public section

namespace Cert.Proof

open Idealize.ShloMosaic

/-- A fold over increasing positions that takes the value at each hit: the start when nothing hits, else the last hit's value. -/
theorem foldl_last {α : Type} {N : ℕ} (hit : Fin N → Prop) [DecidablePred hit] (v : Fin N → α) (a : α) (l : List (Fin N)) :
    l.Pairwise (· < ·) →
      ((∀ n ∈ l, ¬ hit n) ∧ l.foldl (fun a n => if hit n then v n else a) a = a)
        ∨ ∃ n ∈ l, hit n ∧ l.foldl (fun a n => if hit n then v n else a) a = v n ∧ ∀ n' ∈ l, hit n' → n' ≤ n := by
  induction l using List.reverseRecOn with
  | nil => exact fun _ => .inl ⟨fun n h => absurd h (List.not_mem_nil), rfl⟩
  | append_singleton l x ih =>
    intro hp
    obtain ⟨hl, -, hx⟩ := List.pairwise_append.1 hp
    rw [List.foldl_append]
    show (_ ∧ (if hit x then v x else _) = a) ∨ ∃ n ∈ _, hit n ∧ (if hit x then v x else _) = v n ∧ _
    by_cases h : hit x
    · rw [if_pos h]
      refine .inr ⟨x, by simp, h, rfl, fun n' hn' _ => ?_⟩
      rcases List.mem_append.1 hn' with hn' | hn'
      · exact (hx n' hn' x (List.mem_singleton.2 rfl)).le
      · exact (List.mem_singleton.1 hn').le
    · rw [if_neg h]
      rcases ih hl with ⟨hno, e⟩ | ⟨n, hn, hh, e, hlast⟩
      · refine .inl ⟨fun n hn => ?_, e⟩
        rcases List.mem_append.1 hn with hn | hn
        · exact hno n hn
        · rw [List.mem_singleton.1 hn]; exact h
      · refine .inr ⟨n, List.mem_append_left _ hn, hh, e, fun n' hn' hh' => ?_⟩
        rcases List.mem_append.1 hn' with hn' | hn'
        · exact hlast n' hn' hh'
        · exact absurd (List.mem_singleton.1 hn' ▸ hh') h

/-- A setting scatter at `ι`: the operand's element and no landing update, or the last landing update. -/
theorem scatter_last {α : Type} {s si u : Shape} {w : ℕ} (d : ScatterDims s si u) (x0 : s.Idx → α) (idx : IVec si w) (upd : u.Idx → α) (ι : s.Idx) :
    ((∀ k, d.resultIdx? k idx ≠ some ι) ∧ Host.scatter d (fun _ b => b) x0 idx upd ι = x0 ι)
      ∨ ∃ k, d.resultIdx? k idx = some ι ∧ Host.scatter d (fun _ b => b) x0 idx upd ι = upd k
          ∧ ∀ k', d.resultIdx? k' idx = some ι → u.rowMajor k' ≤ u.rowMajor k := by
  rw [Routing.scatter_at]
  rcases foldl_last (fun n => d.resultIdx? (u.rowMajor.symm n) idx = some ι) (fun n => upd (u.rowMajor.symm n)) (x0 ι) (List.finRange u.numel)
    (List.pairwise_lt_finRange _) with ⟨hno, e⟩ | ⟨n, -, hh, e, hlast⟩
  · refine .inl ⟨fun k hk => hno (u.rowMajor k) (List.mem_finRange _) (by rw [Equiv.symm_apply_apply]; exact hk), e⟩
  · refine .inr ⟨u.rowMajor.symm n, hh, e, fun k' hk' => ?_⟩
    rw [Equiv.apply_symm_apply]
    exact hlast _ (List.mem_finRange _) (by rw [Equiv.symm_apply_apply]; exact hk')

end Cert.Proof

end
-- ==== Proof.Weights.lean ====
/- The reference's weight matrix and the kernel's table of entries place the same entries: at (row block, column block) the
   weights are the table's entry, zero where the table has none. -/
module

public import proofs.«01_k».proof.Proof.LastWriter
public import proofs.«01_k».proof.Proof.TablesIdeal
public import proofs.«01_k».proof.Proof.Gen.ReferenceIdeal
public import Idealize.ShloMosaic.Lib.Pipeline.Value

@[expose] public section

set_option maxRecDepth 65536

noncomputable section

namespace Cert.Proof

open Idealize.ShloMosaic
open Idealize.ShloMosaic.ValueIdx (ix1 ix2 ix3 ix4 eq_ix1 eq_ix2 eq_ix3)
open Cert.Proof.KernelIdeal (wrap rowOf places dense)

/-- Each entry's place in the reference's weights: its row and column block. -/
def refPlaces (a1 : IVec ReferenceIdeal.S29 32) (a2 : IVec ReferenceIdeal.S1243 32) : IVec ReferenceIdeal.S1243x2 32 :=
  concatenate ReferenceIdeal.S1243x2 1 [⟨ReferenceIdeal.S1243x1, broadcastInDim ReferenceIdeal.S1243x1 ![0] ReferenceIdeal.Facts₀.bcast_S1243_S1243x1_0 (wrap 28#32 (rowOf a1))⟩,
    ⟨ReferenceIdeal.S1243x1, broadcastInDim ReferenceIdeal.S1243x1 ![0] ReferenceIdeal.Facts₀.bcast_S1243_S1243x1_0 (wrap 148#32 a2)⟩] ReferenceIdeal.Facts₀.concatenates_S1243x1_S1243x1_S1243x2_d1

/-- The reference's weights: the blocks `U` set into `x0` at their places. -/
def weights {α : Type} (x0 : ReferenceIdeal.S28x128x148x128.Idx → α) (P : IVec ReferenceIdeal.S1243x2 32) (U : ReferenceIdeal.S1243x128x128.Idx → α) :
    ReferenceIdeal.S28x128x148x128.Idx → α :=
  Host.scatter ReferenceIdeal.scatter_S28x128x148x128_S1243x2_S1243x128x128_12_02_02_1 (fun _ b => b) x0 P U

variable (a1 : IVec KernelIdeal.S29 32) (a2 : IVec KernelIdeal.S1243 32)

/-- The first column of two set side by side. -/
theorem pair_zero (x y : KernelIdeal.S1243x1.Idx → BitVec 32) (h : Shape.Concatenates [KernelIdeal.S1243x1, KernelIdeal.S1243x1] KernelIdeal.S1243x2 1) (e : Fin 1243) :
    concatenate KernelIdeal.S1243x2 1 [⟨KernelIdeal.S1243x1, x⟩, ⟨KernelIdeal.S1243x1, y⟩] h (ix2 e (0 : Fin 2)) = x (ix2 e (0 : Fin 1)) :=
  concatenate_pair_apply_left (t := KernelIdeal.S1243x2) (s₁ := KernelIdeal.S1243x1) (s₂ := KernelIdeal.S1243x1) 1 x y h (ix2 e (0 : Fin 2)) rfl (ix2 e (0 : Fin 1))
    fun b => match b with | ⟨0, _⟩ => rfl | ⟨1, _⟩ => rfl

/-- The second. -/
theorem pair_one (x y : KernelIdeal.S1243x1.Idx → BitVec 32) (h : Shape.Concatenates [KernelIdeal.S1243x1, KernelIdeal.S1243x1] KernelIdeal.S1243x2 1) (e : Fin 1243) :
    concatenate KernelIdeal.S1243x2 1 [⟨KernelIdeal.S1243x1, x⟩, ⟨KernelIdeal.S1243x1, y⟩] h (ix2 e (1 : Fin 2)) = y (ix2 e (0 : Fin 1)) :=
  concatenate_pair_apply_right (t := KernelIdeal.S1243x2) (s₁ := KernelIdeal.S1243x1) (s₂ := KernelIdeal.S1243x1) 1 x y h (ix2 e (1 : Fin 2)) rfl rfl (ix2 e (0 : Fin 1))
    (fun b => match b with | ⟨0, _⟩ => fun _ => rfl | ⟨1, _⟩ => fun hb => absurd rfl hb) rfl

/-- A vector as a column. -/
theorem column_at (x : KernelIdeal.S1243.Idx → BitVec 32) (h : KernelIdeal.S1243.BroadcastsInDim KernelIdeal.S1243x1 ![0]) (e : Fin 1243) :
    broadcastInDim KernelIdeal.S1243x1 ![0] h x (ix2 e (0 : Fin 1)) = x (ix1 e) :=
  broadcastInDim_apply _ _ _ _ (ix1 e) fun a => match a with | ⟨0, _⟩ => rfl

theorem places_zero (e : Fin 1243) : places a1 a2 (ix2 e (0 : Fin 2)) = wrap 148#32 a2 (ix1 e) :=
  (pair_zero _ _ _ e).trans (column_at _ _ e)

theorem places_one (e : Fin 1243) : places a1 a2 (ix2 e (1 : Fin 2)) = wrap 28#32 (rowOf a1) (ix1 e) :=
  (pair_one _ _ _ e).trans (column_at _ _ e)

theorem refPlaces_zero (e : Fin 1243) : refPlaces a1 a2 (ix2 e (0 : Fin 2)) = wrap 28#32 (rowOf a1) (ix1 e) :=
  (pair_zero _ _ _ e).trans (column_at _ _ e)

theorem refPlaces_one (e : Fin 1243) : refPlaces a1 a2 (ix2 e (1 : Fin 2)) = wrap 148#32 a2 (ix1 e) :=
  (pair_one _ _ _ e).trans (column_at _ _ e)

/-- Update `k` lands at a rank-4 index exactly when it does on each of the four axes. -/
theorem resultIdx?_ix4 {n0 n1 n2 n3 w : ℕ} {si u : Shape} (d : ScatterDims ⟨4, ![n0, n1, n2, n3]⟩ si u) (k : u.Idx) (idx : IVec si w)
    (a : Fin n0) (b : Fin n1) (c : Fin n2) (e : Fin n3) :
    d.resultIdx? k idx = some (ix4 a b c e)
      ↔ (d.start k idx 0 + (d.window k 0 : ℤ) = a.val ∧ d.start k idx 1 + (d.window k 1 : ℤ) = b.val)
        ∧ d.start k idx 2 + (d.window k 2 : ℤ) = c.val ∧ d.start k idx 3 + (d.window k 3 : ℤ) = e.val := by
  rw [Routing.resultIdx?_eq_some]
  refine ⟨fun h => ⟨⟨h 0, h 1⟩, h 2, h 3⟩, fun ⟨⟨h0, h1⟩, h2, h3⟩ x => ?_⟩
  match x with
  | ⟨0, _⟩ => exact h0
  | ⟨1, _⟩ => exact h1
  | ⟨2, _⟩ => exact h2
  | ⟨3, _⟩ => exact h3

/-- Entry `e` lands in the table at (column, row block). -/
theorem lands_dense (P : IVec KernelIdeal.S1243x2 32) (e : Fin 1243) (j : Fin 148) (r : Fin 28) :
    KernelIdeal.scatter_S148x28_S1243x2_S1243_n_01_01_1.resultIdx? (ix1 e) P = some (ix2 j r)
      ↔ (P (ix2 e (0 : Fin 2))).toInt = j.val ∧ (P (ix2 e (1 : Fin 2))).toInt = r.val := by
  have h0 : KernelIdeal.scatter_S148x28_S1243x2_S1243_n_01_01_1.start (ix1 e) P 0 = (P (ix2 e (0 : Fin 2))).toInt := by
    refine (dif_pos (show (0 : Fin 2) ∈ [(0 : Fin 2), 1] by decide)).trans (congrArg (fun x => (P x).toInt) ?_)
    funext b; match b with | ⟨0, _⟩ => rfl | ⟨1, _⟩ => rfl
  have h1 : KernelIdeal.scatter_S148x28_S1243x2_S1243_n_01_01_1.start (ix1 e) P 1 = (P (ix2 e (1 : Fin 2))).toInt := by
    refine (dif_pos (show (1 : Fin 2) ∈ [(0 : Fin 2), 1] by decide)).trans (congrArg (fun x => (P x).toInt) ?_)
    funext b; match b with | ⟨0, _⟩ => rfl | ⟨1, _⟩ => rfl
  have w0 : KernelIdeal.scatter_S148x28_S1243x2_S1243_n_01_01_1.window (ix1 e) 0 = 0 := rfl
  have w1 : KernelIdeal.scatter_S148x28_S1243x2_S1243_n_01_01_1.window (ix1 e) 1 = 0 := rfl
  rw [Routing.resultIdx?_ix2, h0, h1, w0, w1]
  simp

/-- Element `(p', q')` of block `e` lands in the weights at (row block, row, column block, column). -/
theorem lands_weights (P : IVec ReferenceIdeal.S1243x2 32) (e : Fin 1243) (p' q' : Fin 128) (r : Fin 28) (p : Fin 128) (j : Fin 148) (q : Fin 128) :
    ReferenceIdeal.scatter_S28x128x148x128_S1243x2_S1243x128x128_12_02_02_1.resultIdx? (ix3 e p' q') P = some (ix4 r p j q)
      ↔ (P (ix2 e (0 : Fin 2))).toInt = r.val ∧ p' = p ∧ (P (ix2 e (1 : Fin 2))).toInt = j.val ∧ q' = q := by
  have h0 : ReferenceIdeal.scatter_S28x128x148x128_S1243x2_S1243x128x128_12_02_02_1.start (ix3 e p' q') P 0 = (P (ix2 e (0 : Fin 2))).toInt := by
    refine (dif_pos (show (0 : Fin 4) ∈ [(0 : Fin 4), 2] by decide)).trans (congrArg (fun x => (P x).toInt) ?_)
    funext b; match b with | ⟨0, _⟩ => rfl | ⟨1, _⟩ => rfl
  have h2 : ReferenceIdeal.scatter_S28x128x148x128_S1243x2_S1243x128x128_12_02_02_1.start (ix3 e p' q') P 2 = (P (ix2 e (1 : Fin 2))).toInt := by
    refine (dif_pos (show (2 : Fin 4) ∈ [(0 : Fin 4), 2] by decide)).trans (congrArg (fun x => (P x).toInt) ?_)
    funext b; match b with | ⟨0, _⟩ => rfl | ⟨1, _⟩ => rfl
  have h1 : ReferenceIdeal.scatter_S28x128x148x128_S1243x2_S1243x128x128_12_02_02_1.start (ix3 e p' q') P 1 = 0 :=
    dif_neg (show ¬ (1 : Fin 4) ∈ [(0 : Fin 4), 2] by decide)
  have h3 : ReferenceIdeal.scatter_S28x128x148x128_S1243x2_S1243x128x128_12_02_02_1.start (ix3 e p' q') P 3 = 0 :=
    dif_neg (show ¬ (3 : Fin 4) ∈ [(0 : Fin 4), 2] by decide)
  have w0 : ReferenceIdeal.scatter_S28x128x148x128_S1243x2_S1243x128x128_12_02_02_1.window (ix3 e p' q') 0 = 0 := rfl
  have w1 : ReferenceIdeal.scatter_S28x128x148x128_S1243x2_S1243x128x128_12_02_02_1.window (ix3 e p' q') 1 = p'.val := rfl
  have w2 : ReferenceIdeal.scatter_S28x128x148x128_S1243x2_S1243x128x128_12_02_02_1.window (ix3 e p' q') 2 = 0 := rfl
  have w3 : ReferenceIdeal.scatter_S28x128x148x128_S1243x2_S1243x128x128_12_02_02_1.window (ix3 e p' q') 3 = q'.val := rfl
  rw [resultIdx?_ix4, h0, w0, h1, w1, h2, w2, h3, w3, Fin.ext_iff, Fin.ext_iff]
  omega

/-- The weights, block by block: the table's entry's block, `x0` where the table has no entry. -/
theorem weights_at {α : Type} (x0 : ReferenceIdeal.S28x128x148x128.Idx → α) (U : ReferenceIdeal.S1243x128x128.Idx → α)
    (r : Fin 28) (p : Fin 128) (j : Fin 148) (q : Fin 128) :
    weights x0 (refPlaces a1 a2) U (ix4 r p j q)
      = if h : (dense a1 a2 (ix2 j r)).toNat < 1243 then U (ix3 ⟨_, h⟩ p q) else x0 (ix4 r p j q) := by
  have hitW : ∀ (e : Fin 1243) (p' q' : Fin 128),
      ReferenceIdeal.scatter_S28x128x148x128_S1243x2_S1243x128x128_12_02_02_1.resultIdx? (ix3 e p' q') (refPlaces a1 a2) = some (ix4 r p j q)
        ↔ KernelIdeal.scatter_S148x28_S1243x2_S1243_n_01_01_1.resultIdx? (ix1 e) (places a1 a2) = some (ix2 j r) ∧ p' = p ∧ q' = q := fun e p' q' => by
    rw [lands_weights, lands_dense, refPlaces_zero, refPlaces_one, places_zero, places_one]
    exact ⟨fun ⟨x, y, z, t⟩ => ⟨⟨z, x⟩, y, t⟩, fun ⟨⟨z, x⟩, y, t⟩ => ⟨x, y, z, t⟩⟩
  rcases scatter_last KernelIdeal.scatter_S148x28_S1243x2_S1243_n_01_01_1 (KernelIdeal.fillT 1243#32) (places a1 a2) (iotaInDim KernelIdeal.S1243 32 0) (ix2 j r)
    with ⟨hno, e⟩ | ⟨k, hk, e, hlast⟩
  · have hD : dense a1 a2 (ix2 j r) = 1243#32 := e
    rw [dif_neg (by rw [hD]; decide)]
    rcases scatter_last ReferenceIdeal.scatter_S28x128x148x128_S1243x2_S1243x128x128_12_02_02_1 x0 (refPlaces a1 a2) U (ix4 r p j q) with ⟨-, e'⟩ | ⟨k', hk', -, -⟩
    · exact e'
    · rw [eq_ix3 k'] at hk'
      exact absurd ((hitW _ _ _).1 hk').1 (hno _)
  · have hk1 : k = ix1 (k 0) := eq_ix1 k
    have hlt : (k 0).val < 1243 := (k 0).isLt
    have hD : dense a1 a2 (ix2 j r) = BitVec.ofNat 32 (k 0).val := e
    have hN : (dense a1 a2 (ix2 j r)).toNat = (k 0).val := by
      rw [hD, BitVec.toNat_ofNat]
      exact Nat.mod_eq_of_lt (by omega)
    rw [dif_pos (by rw [hN]; exact hlt)]
    have hk0 : KernelIdeal.scatter_S148x28_S1243x2_S1243_n_01_01_1.resultIdx? (ix1 (k 0)) (places a1 a2) = some (ix2 j r) :=
      (congrArg (fun t => KernelIdeal.scatter_S148x28_S1243x2_S1243_n_01_01_1.resultIdx? t (places a1 a2)) hk1.symm).trans hk
    rcases scatter_last ReferenceIdeal.scatter_S28x128x148x128_S1243x2_S1243x128x128_12_02_02_1 x0 (refPlaces a1 a2) U (ix4 r p j q) with ⟨hno', -⟩ | ⟨k', hk', e', hlast'⟩
    · exact absurd ((hitW (k 0) p q).2 ⟨hk0, rfl, rfl⟩) (hno' _)
    · have hk3 := eq_ix3 k'
      rw [hk3] at hk'
      obtain ⟨hl, hp, hq⟩ := (hitW _ _ _).1 hk'
      have le1 : (k' 0).val ≤ (k 0).val := by
        have := hlast _ hl
        rw [Fin.le_def, Shape.rowMajor_val_one, Shape.rowMajor_val_one] at this
        exact this
      have le2 : (k 0).val ≤ (k' 0).val := by
        have := hlast' _ ((hitW (k 0) p q).2 ⟨hk0, rfl, rfl⟩)
        rw [Fin.le_def, Shape.rowMajor_val_three, Shape.rowMajor_val_three] at this
        have t : ((k 0).val * 128 + p.val) * 128 + q.val ≤ ((k' 0).val * 128 + (k' 1).val) * 128 + (k' 2).val := this
        have b1 : (k' 1).val < 128 := (k' 1).isLt
        have b2 : (k' 2).val < 128 := (k' 2).isLt
        omega
      refine (show weights x0 (refPlaces a1 a2) U (ix4 r p j q) = U k' from e').trans (congrArg U ?_)
      rw [hk3]
      have h0 : k' 0 = (⟨(dense a1 a2 (ix2 j r)).toNat, by rw [hN]; exact hlt⟩ : Fin 1243) := Fin.ext ((le_antisymm le1 le2).trans hN.symm)
      funext b
      match b with
      | ⟨0, _⟩ => exact h0
      | ⟨1, _⟩ => exact hp
      | ⟨2, _⟩ => exact hq

end Cert.Proof

end
-- ==== Proof.PayIdeal.lean ====
/- The values the two kernels store, read at an element at the ideal numbers. -/
module

public import proofs.«01_k».proof.Proof.Gen.KernelIdeal.Skeleton
public import proofs.«01_k».proof.Proof.Gen.ReferenceIdeal.Skeleton
import Idealize.ShloMosaic.Lib.Pointwise
public import Idealize.ShloMosaic.Lib.ValueIdxCore
public import Idealize.ShloMosaic.PureOps.Ideal.Laws

@[expose] public section

noncomputable section

namespace Cert.Proof

open Idealize.ShloMosaic

/-- One product added to the running sum. -/
theorem pay2_at (v23 : Vec Ideal KernelIdeal.S1x128x128 .fp8e4m3) (v27 : Elt Ideal .f32) (v34 : Vec Ideal KernelIdeal.S1024x128 .bf16)
    (v36 : Vec Ideal KernelIdeal.S1024x128 .f32) (t : Fin 1024) (q : Fin 128) :
    KernelIdeal.Gen.k0_pay2 v23 v27 v34 v36 (ValueIdx.ix2 t q)
      = v36 (ValueIdx.ix2 t q) + ∑ p : Fin 128, (v34 (ValueIdx.ix2 t p) * (v23 (ValueIdx.ix3 (0 : Fin 1) p q) * v27) : EReal) := by
  simp only [← ix2_eq_valueIdx, ← ix3_eq_valueIdx]
  pointwise [KernelIdeal.Gen.k0_pay2]

/-- The running sum starts at zero. -/
theorem pay1_at (i : KernelIdeal.S1024x128.Idx) : (KernelIdeal.Gen.k0_pay1 (F := Ideal)) i = (0 : EReal) := by
  pointwise [KernelIdeal.Gen.k0_pay1]

/-- The rounding is the identity. -/
theorem pay4_at (v : Vec Ideal KernelIdeal.S1024x128 .f32) (i : KernelIdeal.S1024x128.Idx) : KernelIdeal.Gen.k0_pay4 v i = v i := by
  pointwise [KernelIdeal.Gen.k0_pay4]

/-- The reference's scaled blocks. -/
theorem scaled_at (v0 : Vec Ideal ReferenceIdeal.S1243x128x128 .fp8e4m3) (v2 : Vec Ideal ReferenceIdeal.S1243 .f32) (e : Fin 1243) (p q : Fin 128) :
    ReferenceIdeal.Gen.k0_pay1 v0 v2 (ValueIdx.ix3 e p q) = (v0 (ValueIdx.ix3 e p q) * v2 (ValueIdx.ix1 e) : EReal) := by
  simp only [← ix1_eq_valueIdx, ← ix3_eq_valueIdx]
  pointwise [ReferenceIdeal.Gen.k0_pay1]

end Cert.Proof

end
-- ==== Proof.ResultReference.lean ====
/- The reference's program read: what its one kernel leaves, and what the host lines after it make of that. -/
module

public import proofs.«01_k».proof.Proof.Weights
public import proofs.«01_k».proof.Proof.PayIdeal
public import proofs.«01_k».proof.Proof.Gen.ReferenceIdeal.Frame
public import Idealize.ShloMosaic.Lib.Pipeline.ValueKit.Geometry
public import Idealize.ShloMosaic.Lib.Pipeline.ValueKit.Acc
public import Idealize.ShloMosaic.Lib.StableHlo.Run
public import Idealize.ShloMosaic.Lib.StableHlo.RunRead

@[expose] public section

set_option maxRecDepth 65536

noncomputable section

namespace Cert.Proof.ReferenceIdeal

open Cert.ReferenceIdeal Cert.ReferenceIdeal.Gen
open Idealize.ShloMosaic Idealize.ShloMosaic.TcCoe Idealize.ShloMosaic.Tactic
open Idealize.ShloMosaic.ValueIdx (ix1 ix2 ix3 ix4)

/-- The places of the blocks, from the row blocks and the columns. -/
def placesOf (r a2 : IVec S1243 32) : IVec S1243x2 32 :=
  concatenate S1243x2 1 [⟨S1243x1, broadcastInDim S1243x1 ![0] bcast_S1243_S1243x1_0 (KernelIdeal.wrap 28#32 r)⟩,
    ⟨S1243x1, broadcastInDim S1243x1 ![0] bcast_S1243_S1243x1_0 (KernelIdeal.wrap 148#32 a2)⟩] concatenates_S1243x1_S1243x1_S1243x2_d1

/-- The weights before any block is set. -/
def zeros : Vec Ideal S28x128x148x128 .bf16 := broadcastInDim S28x128x148x128 ![] bcast_S_S28x128x148x128 (constant (F := Ideal) S_ .bf16 0x0000#16)

/-- What the host lines after the kernel make of the activations, the weights. -/
def product (a0 : Vec Ideal S1x1024x3584 .bf16) (w : Vec Ideal S28x128x148x128 .bf16) : Vec Ideal S1024x18944 .bf16 :=
  shapeCast S1024x18944 (truncf (F := Ideal) .bf16 (show FVec Ideal S1x1024x18944 .f32 from Host.dotGeneral (F := Ideal) (φ₁ := .bf16) (φ₂ := .bf16) dot_S1x1024x3584_S3584x18944_S1x1024x18944_2_0_01_1_n_n none a0
    (shapeCast S3584x18944 w shapeCasts_S28x128x148x128_S3584x18944)) bitsLt_bf16_f32) shapeCasts_S1x1024x18944_S1024x18944

/-- The lines after the kernel, up to the two columns of places; -/
abbrev tailA : List (HloOp τ sig (Elt Ideal)) :=
  [ StableHlo.nullary main_cst (constant (F := Ideal) S_ .bf16 0x0000#16),
    StableHlo.unary main_cst main_v5 (broadcastInDim S28x128x148x128 ![] bcast_S_S28x128x148x128 : (⟨S_, .bf16⟩ : BufTy).Contents (Elt Ideal) → (⟨S28x128x148x128, .bf16⟩ : BufTy).Contents (Elt Ideal)),
    StableHlo.nullary main_c_0 (constantI S_ 32 0#32),
    StableHlo.unary main_c_0 main_v6 (broadcastInDim S1243 ![] bcast_S_S1243 : (⟨S_, .i32⟩ : BufTy).Contents (Elt Ideal) → (⟨S1243, .i32⟩ : BufTy).Contents (Elt Ideal)),
    StableHlo.binary main_v3 main_v6 main_v7 (cmpi .slt : (⟨S1243, .i32⟩ : BufTy).Contents (Elt Ideal) → (⟨S1243, .i32⟩ : BufTy).Contents (Elt Ideal) → (⟨S1243, .i1⟩ : BufTy).Contents (Elt Ideal)),
    StableHlo.nullary main_c_1 (constantI S_ 32 28#32),
    StableHlo.unary main_c_1 main_v8 (broadcastInDim S1243 ![] bcast_S_S1243 : (⟨S_, .i32⟩ : BufTy).Contents (Elt Ideal) → (⟨S1243, .i32⟩ : BufTy).Contents (Elt Ideal)),
    StableHlo.binary main_v3 main_v8 main_v9 (addi : (⟨S1243, .i32⟩ : BufTy).Contents (Elt Ideal) → (⟨S1243, .i32⟩ : BufTy).Contents (Elt Ideal) → (⟨S1243, .i32⟩ : BufTy).Contents (Elt Ideal)),
    StableHlo.ternary main_v7 main_v9 main_v3 main_v10 (select : (⟨S1243, .i1⟩ : BufTy).Contents (Elt Ideal) → (⟨S1243, .i32⟩ : BufTy).Contents (Elt Ideal) → (⟨S1243, .i32⟩ : BufTy).Contents (Elt Ideal) → (⟨S1243, .i32⟩ : BufTy).Contents (Elt Ideal)),
    StableHlo.nullary main_c_2 (constantI S_ 32 0#32),
    StableHlo.unary main_c_2 main_v11 (broadcastInDim S1243 ![] bcast_S_S1243 : (⟨S_, .i32⟩ : BufTy).Contents (Elt Ideal) → (⟨S1243, .i32⟩ : BufTy).Contents (Elt Ideal)),
    StableHlo.binary main_arg2 main_v11 main_v12 (cmpi .slt : (⟨S1243, .i32⟩ : BufTy).Contents (Elt Ideal) → (⟨S1243, .i32⟩ : BufTy).Contents (Elt Ideal) → (⟨S1243, .i1⟩ : BufTy).Contents (Elt Ideal)),
    StableHlo.nullary main_c_3 (constantI S_ 32 148#32),
    StableHlo.unary main_c_3 main_v13 (broadcastInDim S1243 ![] bcast_S_S1243 : (⟨S_, .i32⟩ : BufTy).Contents (Elt Ideal) → (⟨S1243, .i32⟩ : BufTy).Contents (Elt Ideal)),
    StableHlo.binary main_arg2 main_v13 main_v14 (addi : (⟨S1243, .i32⟩ : BufTy).Contents (Elt Ideal) → (⟨S1243, .i32⟩ : BufTy).Contents (Elt Ideal) → (⟨S1243, .i32⟩ : BufTy).Contents (Elt Ideal)),
    StableHlo.ternary main_v12 main_v14 main_arg2 main_v15 (select : (⟨S1243, .i1⟩ : BufTy).Contents (Elt Ideal) → (⟨S1243, .i32⟩ : BufTy).Contents (Elt Ideal) → (⟨S1243, .i32⟩ : BufTy).Contents (Elt Ideal) → (⟨S1243, .i32⟩ : BufTy).Contents (Elt Ideal)),
    StableHlo.unary main_v10 main_v16 (broadcastInDim S1243x1 ![0] bcast_S1243_S1243x1_0 : (⟨S1243, .i32⟩ : BufTy).Contents (Elt Ideal) → (⟨S1243x1, .i32⟩ : BufTy).Contents (Elt Ideal)),
    StableHlo.unary main_v15 main_v17 (broadcastInDim S1243x1 ![0] bcast_S1243_S1243x1_0 : (⟨S1243, .i32⟩ : BufTy).Contents (Elt Ideal) → (⟨S1243x1, .i32⟩ : BufTy).Contents (Elt Ideal)) ]

/-- the rest of them. -/
abbrev tailB : List (HloOp τ sig (Elt Ideal)) :=
  [ StableHlo.binary main_v16 main_v17 main_v18 ((fun a b => concatenate S1243x2 1 [⟨S1243x1, a⟩, ⟨S1243x1, b⟩] concatenates_S1243x1_S1243x1_S1243x2_d1) : (⟨S1243x1, .i32⟩ : BufTy).Contents (Elt Ideal) → (⟨S1243x1, .i32⟩ : BufTy).Contents (Elt Ideal) → (⟨S1243x2, .i32⟩ : BufTy).Contents (Elt Ideal)),
    StableHlo.ternary main_v5 main_v18 main_v4 main_v19 ((fun x i u => Host.scatter scatter_S28x128x148x128_S1243x2_S1243x128x128_12_02_02_1 (fun _ b => b) x i u) : (⟨S28x128x148x128, .bf16⟩ : BufTy).Contents (Elt Ideal) → (⟨S1243x2, .i32⟩ : BufTy).Contents (Elt Ideal) → (⟨S1243x128x128, .bf16⟩ : BufTy).Contents (Elt Ideal) → (⟨S28x128x148x128, .bf16⟩ : BufTy).Contents (Elt Ideal)),
    StableHlo.reshape main_v19 main_v20 (rfl : (.bf16 : EltTy) = .bf16) shapeCasts_S28x128x148x128_S3584x18944,
    StableHlo.binary main_arg0 main_v20 main_v21 ((fun l r => Host.dotGeneral (F := Ideal) (φ₁ := .bf16) (φ₂ := .bf16) dot_S1x1024x3584_S3584x18944_S1x1024x18944_2_0_01_1_n_n none l r) : (⟨S1x1024x3584, .bf16⟩ : BufTy).Contents (Elt Ideal) → (⟨S3584x18944, .bf16⟩ : BufTy).Contents (Elt Ideal) → (⟨S1x1024x18944, .f32⟩ : BufTy).Contents (Elt Ideal)),
    StableHlo.unary main_v21 main_v22 ((truncf (F := Ideal) .bf16 · bitsLt_bf16_f32) : (⟨S1x1024x18944, .f32⟩ : BufTy).Contents (Elt Ideal) → (⟨S1x1024x18944, .bf16⟩ : BufTy).Contents (Elt Ideal)),
    StableHlo.reshape main_v22 main_v23 (rfl : (.bf16 : EltTy) = .bf16) shapeCasts_S1x1024x18944_S1024x18944 ]

theorem tail_split : (hostOps1 : List (HloOp τ sig (Elt Ideal))) = tailA ++ tailB := rfl

/-- A line of operations in two parts. -/
theorem after_two (l₁ l₂ : List (HloOp τ sig (Elt Ideal))) (W : Valuation τ sig (Elt Ideal)) : StableHlo.after (l₁ ++ l₂) W = StableHlo.after l₂ (StableHlo.after l₁ W) := by
  induction l₁ generalizing W with
  | nil => rfl
  | cons op l ih => exact ih _

section Tail
variable (W : Valuation τ sig (Elt Ideal))

theorem tailA_v16 : StableHlo.after tailA W (Proc.devRef .tc main_v16)
    = broadcastInDim S1243x1 ![0] bcast_S1243_S1243x1_0 (KernelIdeal.wrap 28#32 (W (Proc.devRef .tc main_v3))) := by
  after_reads_simp
  generalize W (Proc.devRef .tc main_v3) = r
  rfl
theorem tailA_v17 : StableHlo.after tailA W (Proc.devRef .tc main_v17)
    = broadcastInDim S1243x1 ![0] bcast_S1243_S1243x1_0 (KernelIdeal.wrap 148#32 (W (Proc.devRef .tc main_arg2))) := by
  after_reads_simp
  generalize W (Proc.devRef .tc main_arg2) = r
  rfl
theorem tailA_v5 : StableHlo.after tailA W (Proc.devRef .tc main_v5) = zeros := by
  after_reads_simp
  rfl
theorem tailA_arg0 : StableHlo.after tailA W (Proc.devRef .tc main_arg0) = W (Proc.devRef .tc main_arg0) := by
  after_reads_simp
theorem tailA_v4 : StableHlo.after tailA W (Proc.devRef .tc main_v4) = W (Proc.devRef .tc main_v4) := by
  after_reads_simp

theorem tailB_v23 : StableHlo.after tailB W (Proc.devRef .tc main_v23)
    = product (W (Proc.devRef .tc main_arg0)) (weights (W (Proc.devRef .tc main_v5))
      (concatenate S1243x2 1 [⟨S1243x1, W (Proc.devRef .tc main_v16)⟩, ⟨S1243x1, W (Proc.devRef .tc main_v17)⟩] concatenates_S1243x1_S1243x1_S1243x2_d1)
      (W (Proc.devRef .tc main_v4))) := by
  after_reads_simp
  generalize W (Proc.devRef .tc main_arg0) = a0
  generalize W (Proc.devRef .tc main_v4) = u
  generalize W (Proc.devRef .tc main_v5) = z
  unfold product weights
  rfl

theorem tail_v23 : StableHlo.after hostOps1 W (Proc.devRef .tc main_v23)
    = product (W (Proc.devRef .tc main_arg0)) (weights zeros (placesOf (W (Proc.devRef .tc main_v3)) (W (Proc.devRef .tc main_arg2))) (W (Proc.devRef .tc main_v4))) := by
  rw [tail_split, after_two, tailB_v23, tailA_arg0, tailA_v4, tailA_v5, tailA_v16, tailA_v17]
  rfl

end Tail

variable (m : (ℓ : Loc nD τ sig) → Buf (Elt Ideal) ℓ) (c : Dev nD)

set_option maxHeartbeats 1000000 in
theorem V_v3 : V m c main_v3 = KernelIdeal.rowOf (m ((c : Thread nD τ).loc main_arg1)) := by
  unfold V V0
  after_reads_simp
  rfl

theorem covers2 : (cfg0.win 2).Covers := by decide +kernel

theorem zero_block (n k : ℕ) : 0 * n + k = k := by omega

theorem iblk0_eq (t : Fin cfg0.N) : (iblk m c 0 t : Vec Ideal S1243x128x128 .fp8e4m3) = V m c main_arg3 := by
  funext x
  blk_simp [iblk]
  refine congrArg (V m c main_arg3) ?_
  blk_ext
  all_goals exact zero_block _ _

theorem iblk1_eq (t : Fin cfg0.N) : (iblk m c 1 t : Vec Ideal S1243 .f32) = V m c main_arg4 := by
  funext x
  blk_simp [iblk]
  refine congrArg (V m c main_arg4) ?_
  blk_ext
  all_goals exact zero_block _ _

theorem out_pay (x0 : Vec Ideal S1243x128x128 .fp8e4m3) (x1 : Vec Ideal S1243 .f32) : out0_2 x0 x1 = k0_pay1 x0 x1 := by
  unfold out0_2
  have h3 : (![0, 0, 0] : Fin 3 → ℕ) = fun _ => 0 := by funext a; fin_cases a <;> rfl
  have h1 : (![0] : Fin 1 → ℕ) = fun _ => 0 := by funext a; fin_cases a; rfl
  unfold r0_0 r0_1
  rw [View.canon_unit_zero h3, View.ld_unit_zero h3, View.ld_unit_zero h1]

/-- Where the block's element lies. -/
def emb2 (t : Fin cfg0.N) (y : S1243x128x128.Idx) : S1243x128x128.Idx := ((cfg0.win 2).blk t).view.emb y

theorem emb2_eq (t : Fin cfg0.N) (y : S1243x128x128.Idx) : emb2 t y = y := by
  unfold emb2
  blk_ext
  all_goals exact zero_block _ _

/-- What the kernel leaves: every block times its scale. -/
theorem scaled_eq : (dats m 0 c).arrAt 2 cfg0.N = k0_pay1 (V m c main_arg3) (V m c main_arg4) := by
  refine (dats m 0 c).arrAt_eq_of_covers 2 _ covers2 fun t hf y => ?_
  rw [after0_2]
  blk_simp
  exact congrFun ((congrArg₂ out0_2 (iblk0_eq m c t) (iblk1_eq m c t)).trans (out_pay _ _)) y |>.trans (congrArg _ (emb2_eq t y).symm)

/-- The buffers the lines after the kernel start from. -/
abbrev WT : Valuation τ sig (Elt Ideal) := Pipeline.withArrays (cfgs 0).spec c (V0 m c) fun w => (dats m 0 c).arrAt w (cfgs 0).N

theorem WT_arg0 : WT m c (Proc.devRef .tc main_arg0) = m ((c : Thread nD τ).loc main_arg0) :=
  (Pipeline.withArrays_of_ne _ c (V0 m c) _ main_arg0 (by exact (by decide : ∀ w, Pipeline.arrRef spec0 w ≠ main_arg0))).trans (V_main_arg0 m c)
theorem WT_arg2 : WT m c (Proc.devRef .tc main_arg2) = m ((c : Thread nD τ).loc main_arg2) :=
  (Pipeline.withArrays_of_ne _ c (V0 m c) _ main_arg2 (by exact (by decide : ∀ w, Pipeline.arrRef spec0 w ≠ main_arg2))).trans (V_main_arg2 m c)
theorem WT_v3 : WT m c (Proc.devRef .tc main_v3) = KernelIdeal.rowOf (m ((c : Thread nD τ).loc main_arg1)) :=
  (Pipeline.withArrays_of_ne _ c (V0 m c) _ main_v3 (by exact (by decide : ∀ w, Pipeline.arrRef spec0 w ≠ main_v3))).trans (V_v3 m c)
theorem WT_v4 : WT m c (Proc.devRef .tc main_v4) = k0_pay1 (m ((c : Thread nD τ).loc main_arg3)) (m ((c : Thread nD τ).loc main_arg4)) := by
  refine (Pipeline.withArrays_arr (cfgs 0).spec (by exact (by decide : Function.Injective (Pipeline.arrRef spec0))) c (V0 m c) _ 2).trans ((scaled_eq m c).trans ?_)
  rw [V_main_arg3, V_main_arg4]

/-- What the reference's program leaves as its result. -/
theorem out_eq : Pipeline.afterTail₀ cfgs (dats m) 0 (V0 m) [hostOps1] c main_v23
    = product (m ((c : Thread nD τ).loc main_arg0))
      (weights zeros (refPlaces (m ((c : Thread nD τ).loc main_arg1)) (m ((c : Thread nD τ).loc main_arg2)))
        (k0_pay1 (m ((c : Thread nD τ).loc main_arg3)) (m ((c : Thread nD τ).loc main_arg4)))) := by
  unfold Pipeline.afterTail₀
  refine (tail_v23 (WT m c)).trans ?_
  rw [WT_arg0, WT_arg2, WT_v3, WT_v4]
  rfl

end Cert.Proof.ReferenceIdeal
end
-- ==== Proof.ColumnIdeal.lean ====
/- The running sum of one block column: at the ideal numbers it is the sum over all row blocks of the products with the
   table's entries, the row blocks without an entry adding nothing. -/
module

public import proofs.«01_k».proof.Proof.BodyIdeal
public import proofs.«01_k».proof.Proof.SortIdeal
public import proofs.«01_k».proof.Proof.PayIdeal

@[expose] public section

noncomputable section

namespace Cert.Proof.KernelIdeal

open Cert.KernelIdeal Cert.KernelIdeal.Gen
open Idealize.ShloMosaic
open Idealize.ShloMosaic.ValueIdx (ix1 ix2 ix3)

/-- Row `p` of row block `r`. -/
abbrev rowAt (r : Fin 28) (p : Fin 128) : Fin 3584 := ⟨r.val * 128 + p.val, by omega⟩

variable (D : IVec S148x28 32) (S : S1243.Idx → Elt Ideal .f32) (X : Vec Ideal S1024x3584 .bf16) (B : Vec Ideal S1243x128x128 .fp8e4m3)

/-- Entry `e`'s product with row block `r`, at row `t` and column `q`. -/
def prod (t : Fin 1024) (q : Fin 128) (r : Fin 28) (e : Fin 1243) : EReal :=
  ∑ p : Fin 128, (X (ix2 t (rowAt r p)) * (B (ix3 e p q) * S (ix1 e)) : EReal)

/-- What row block `r` adds to block column `j`. -/
def part (j : Fin 148) (t : Fin 1024) (q : Fin 128) (r : Fin 28) : EReal :=
  if h : (D (ix2 j r)).toNat < 1243 then prod S X B t q r ⟨_, h⟩ else 0

/-- One trip adds one product. -/
theorem trip_at (o e : BitVec 32) (ho : o.toNat < 28) (he : e.toNat < 1243) (a : Vec Ideal S1024x128 .f32) (t : Fin 1024) (q : Fin 128) :
    trip S X B o e a (ix2 t q) = (a (ix2 t q) + prod S X B t q ⟨_, ho⟩ ⟨_, he⟩ : EReal) := by
  unfold trip
  rw [dif_pos ⟨chk3_of o ho, chk2_of e he⟩]
  refine (pay2_at _ _ _ _ t q).trans ?_
  unfold prod
  refine congrArg (fun z : EReal => (a (ix2 t q) + z : EReal)) (Finset.sum_congr rfl fun p _ => ?_)
  have hX : View.ld X (Rect.unit (s := S1024x3584) (k0_off5 o) S1024x128.size (k0_off5_inb o (chk3_of o ho))) (ix2 t p) = X (ix2 t (rowAt ⟨_, ho⟩ p)) := by
    refine congrArg X ?_
    funext x
    apply Fin.ext
    match x with
    | ⟨0, _⟩ =>
      show k0_off5 o 0 + 1 * t.val = t.val
      rw [off5_eq o ho]
      show 0 + 1 * t.val = t.val
      omega
    | ⟨1, _⟩ =>
      show k0_off5 o 1 + 1 * p.val = o.toNat * 128 + p.val
      rw [off5_eq o ho]
      show o.toNat * 128 + 1 * p.val = _
      omega
  have hB : View.ld B (Rect.unit (s := S1243x128x128) (k0_off3 e) S1x128x128.size (k0_off3_inb e (chk2_of e he))) (ix3 (0 : Fin 1) p q) = B (ix3 ⟨_, he⟩ p q) := by
    refine congrArg B ?_
    funext x
    apply Fin.ext
    match x with
    | ⟨0, _⟩ => show e.toNat + 1 * 0 = e.toNat; omega
    | ⟨1, _⟩ => show 0 + 1 * p.val = p.val; omega
    | ⟨2, _⟩ => show 0 + 1 * q.val = q.val; omega
  have hS : scaleOf S e = S (ix1 ⟨_, he⟩) := dif_pos he
  exact congrArg₂ (fun x y : EReal => x * y) hX (congrArg₂ (fun x y : EReal => x * y) hB hS)

/-- The running sum before trip `n`: the first `n` row blocks in sorting order. -/
theorem accAt_at (hD : ∀ i, (D i).toNat ≤ 1243) (i : grid0.Coords) (t : Fin 1024) (q : Fin 128) (n : ℕ) (hn : n ≤ (cnts D (ix1 (n := 148) (i 0))).toNat) :
    accAt (order D) (ents D (order D)) S X B i n (ix2 t q)
      = (∑ k : Fin 28, if k.val < n then part D S X B (i 0) t q (perm D (i 0) k) else 0 : EReal) := by
  have hc := cnts_le D hD (i 0)
  induction n with
  | zero =>
    refine (pay1_at _).trans (Finset.sum_eq_zero fun k _ => if_neg (Nat.not_lt_zero _)).symm
  | succ n ih =>
    have hn' : n < (cnts D (ix1 (n := 148) (i 0))).toNat := hn
    have h28 : n < 28 := lt_of_lt_of_le hn' hc
    have ho : word (order D) i n = BitVec.ofNat 32 (perm D (i 0) ⟨n, h28⟩).val := by
      unfold word; rw [dif_pos h28]; exact order_at D (i 0) ⟨n, h28⟩
    have he : word (ents D (order D)) i n = D (ix2 (i 0) (perm D (i 0) ⟨n, h28⟩)) := by
      unfold word; rw [dif_pos h28]; exact ents_at D (i 0) ⟨n, h28⟩
    have hp := (perm D (i 0) ⟨n, h28⟩).isLt
    have hoN : (word (order D) i n).toNat = (perm D (i 0) ⟨n, h28⟩).val := by rw [ho, BitVec.toNat_ofNat]; omega
    have hlt := (entry_iff D hD (i 0) ⟨n, h28⟩).2 hn'
    have hoL : (word (order D) i n).toNat < 28 := by omega
    have heL : (word (ents D (order D)) i n).toNat < 1243 := lt_of_eq_of_lt (congrArg BitVec.toNat he) hlt
    refine (trip_at S X B _ _ hoL heL _ t q).trans ?_
    rw [ih (Nat.le_of_succ_le hn)]
    have hpart : prod S X B t q ⟨_, hoL⟩ ⟨_, heL⟩ = part D S X B (i 0) t q (perm D (i 0) ⟨n, h28⟩) := by
      unfold part
      rw [dif_pos hlt]
      exact congrArg₂ (prod S X B t q) (Fin.ext hoN) (Fin.ext (congrArg BitVec.toNat he))
    rw [hpart]
    have hs : ∀ k : Fin 28, (if k.val < n + 1 then part D S X B (i 0) t q (perm D (i 0) k) else 0 : EReal)
        = (if k.val < n then part D S X B (i 0) t q (perm D (i 0) k) else 0) + (if k = ⟨n, h28⟩ then part D S X B (i 0) t q (perm D (i 0) k) else 0) := fun k => by
      by_cases h1 : k.val < n
      · rw [if_pos (by omega), if_pos h1, if_neg (fun e => by rw [e] at h1; exact lt_irrefl _ h1), add_zero]
      · by_cases h2 : k = ⟨n, h28⟩
        · rw [if_pos (by rw [h2]; exact Nat.lt_succ_self n), if_neg h1, if_pos h2, zero_add]
        · rw [if_neg (fun h => h2 (Fin.ext (by show k.val = n; omega))), if_neg h1, if_neg h2, add_zero]
    rw [Finset.sum_congr rfl fun k _ => hs k, Finset.sum_add_distrib, Finset.sum_ite_eq' Finset.univ, if_pos (Finset.mem_univ _)]

/-- The whole column's sum, over the row blocks in their own order. -/
theorem column_at (hD : ∀ i, (D i).toNat ≤ 1243) (i : grid0.Coords) (t : Fin 1024) (q : Fin 128) :
    accAt (order D) (ents D (order D)) S X B i (cnts D (ix1 (n := 148) (i 0))).toNat (ix2 t q) = (∑ r : Fin 28, part D S X B (i 0) t q r : EReal) := by
  rw [accAt_at D S X B hD i t q _ le_rfl, ← Function.Bijective.sum_comp (perm_bijective D (i 0)) (part D S X B (i 0) t q)]
  refine Finset.sum_congr rfl fun k _ => ?_
  by_cases h : k.val < (cnts D (ix1 (n := 148) (i 0))).toNat
  · rw [if_pos h]
  · rw [if_neg h]
    unfold part
    rw [dif_neg fun h' => h ((entry_iff D hD (i 0) k).1 h')]

end Cert.Proof.KernelIdeal

end
-- ==== Proof.ResultIdeal.lean ====
/- The kernel's column blocks put together: the whole result, element by element, as sums over the row blocks. -/
module

public import proofs.«01_k».proof.Proof.OkIdeal
public import proofs.«01_k».proof.Proof.PayIdeal
public import proofs.«01_k».proof.Proof.ColumnIdeal
public import Idealize.ShloMosaic.Lib.Pipeline.ValueKit.Geometry
public import Idealize.ShloMosaic.Lib.Pipeline.ValueKit.Acc

@[expose] public section

set_option maxRecDepth 65536

noncomputable section

namespace Cert.Proof.KernelIdeal

open Cert.KernelIdeal Cert.KernelIdeal.Gen
open Idealize.ShloMosaic Idealize.ShloMosaic.TcCoe Idealize.ShloMosaic.Tactic
open Idealize.ShloMosaic.ValueIdx (ix1 ix2 ix3)

/-- Some contents of the tables: no window's place depends on them. -/
def someAdm : (pcfg0 (F := Ideal)).Adm := ⟨fun | ⟨0, _⟩ => fun _ => (0#32) | ⟨1, _⟩ => fun _ => (0#32) | ⟨2, _⟩ => fun _ => (0#32), trivial⟩

/-- The column blocks cover the result. -/
theorem covers_some : ((cfg0 someAdm).win 3).Covers := by decide +kernel

variable (m : (ℓ : Loc nD τ sig) → Buf (Elt Ideal) ℓ) (c : Dev nD)

/-- So do they at the tables the program makes. -/
theorem covers3 : ((cfgm m).win 3).Covers := covers_some

/-- The column block's number is the grid coordinate. -/
theorem idx3 : ∀ t : Fin (cfgm m).N, ((cfgm m).win 3).index t = ![0, (grid0.coords t 0).val] := fun t => by
  have h : (grid0.coords t 0).val < 148 := (grid0.coords t 0).isLt
  have e : (BitVec.ofNat 32 (grid0.coords t 0).val).toNat = (grid0.coords t 0).val := by
    rw [BitVec.toNat_ofNat]; omega
  show ![0, (BitVec.ofNat 32 (grid0.coords t 0).val).toNat] = _
  rw [e]

/-- A whole-array block starts at zero. -/
theorem zero_block (n k : ℕ) : 0 * n + k = k := by omega

/-- The scales a body reads are all of them; -/
theorem iblk0_eq (t : Fin (cfgm m).N) : (iblk m c 0 t : Vec Ideal S1243 .f32) = V m c main_arg4 := by
  funext x
  blk_simp [iblk]
  refine congrArg (V m c main_arg4) ?_
  blk_ext
  exact zero_block _ _

/-- so are the activations -/
theorem iblk1_eq (t : Fin (cfgm m).N) : (iblk m c 1 t : Vec Ideal S1024x3584 .bf16) = V m c main_v25 := by
  funext x
  blk_simp [iblk]
  refine congrArg (V m c main_v25) ?_
  blk_ext
  · exact zero_block _ _
  · exact zero_block _ _

/-- and the blocks. -/
theorem iblk2_eq (t : Fin (cfgm m).N) : (iblk m c 2 t : Vec Ideal S1243x128x128 .fp8e4m3) = V m c main_arg3 := by
  funext x
  blk_simp [iblk]
  refine congrArg (V m c main_arg3) ?_
  blk_ext
  · exact zero_block _ _
  · exact zero_block _ _
  · exact zero_block _ _

/-- The product, for a table of entries, scales, activations and blocks. -/
def result (D : IVec S148x28 32) (S : Vec Ideal S1243 .f32) (X : Vec Ideal S1024x3584 .bf16) (B : Vec Ideal S1243x128x128 .fp8e4m3)
    (i : S1024x18944.Idx) : EReal :=
  ∑ r : Fin 28, part D S X B ⟨(i 1).val / 128, Nat.div_lt_of_lt_mul (i 1).isLt⟩ (i 0) ⟨(i 1).val % 128, Nat.mod_lt _ (by decide)⟩ r

/-- The column read off any tables and arrays that are those of `column_at`. -/
theorem column_of {D : IVec S148x28 32} {S : Vec Ideal S1243 .f32} {X : Vec Ideal S1024x3584 .bf16} {B : Vec Ideal S1243x128x128 .fp8e4m3}
    (hD : ∀ i, (D i).toNat ≤ 1243) {o e : IVec S148x28 32} {n : IVec S148 32} {s : Vec Ideal S1243 .f32} {x : Vec Ideal S1024x3584 .bf16}
    {b : Vec Ideal S1243x128x128 .fp8e4m3} (ho : o = order D) (he : e = ents D (order D)) (hn : n = cnts D) (hs : s = S) (hx : x = X) (hb : b = B)
    (i : grid0.Coords) (y : S1024x128.Idx) :
    k0_pay4 (accAt o e s x b i (n (ix1 (n := 148) (i 0))).toNat) y = (∑ r : Fin 28, part D S X B (i 0) (y 0) (y 1) r : EReal) := by
  subst ho he hn hs hx hb
  have ey : y = ix2 (y 0) (y 1) := by
    funext a; fin_cases a <;> rfl
  refine (pay4_at _ _).trans ?_
  exact (congrArg _ ey).trans (column_at D _ _ _ hD i (y 0) (y 1))

/-- `result` where the block column and the place in it are known. -/
theorem result_at (D : IVec S148x28 32) (S : Vec Ideal S1243 .f32) (X : Vec Ideal S1024x3584 .bf16) (B : Vec Ideal S1243x128x128 .fp8e4m3)
    (i : S1024x18944.Idx) (t : Fin 1024) (j : Fin 148) (q : Fin 128) (h0 : (i 0 : ℕ) = t) (h1 : (i 1 : ℕ) = j * 128 + q) :
    result D S X B i = ∑ r : Fin 28, part D S X B j t q r := by
  have ht : i 0 = t := Fin.ext h0
  have hj : (⟨(i 1).val / 128, Nat.div_lt_of_lt_mul (i 1).isLt⟩ : Fin 148) = j := Fin.ext (by show (i 1 : ℕ) / 128 = j; omega)
  have hq : (⟨(i 1).val % 128, Nat.mod_lt _ (by decide)⟩ : Fin 128) = q := Fin.ext (by show (i 1 : ℕ) % 128 = q; omega)
  unfold result
  rw [hj, hq, ht]

/-- A column block's values. -/
theorem outBlk_at (t : Fin (cfgm m).N) (y : S1024x128.Idx) :
    outBlk m c t y = (∑ r : Fin 28, part (denseM m c) (V m c main_arg4) (V m c main_v25) (V m c main_arg3) (grid0.coords t 0) (y 0) (y 1) r : EReal) :=
  column_of (dense_ok m c) (V_v19 m c) (V_v20 m c) (V_v24 m c) (iblk0_eq m c t) (iblk1_eq m c t) (iblk2_eq m c t) (grid0.coords t) y

/-- Where a column block's element lies. -/
def emb3 (t : Fin (cfgm m).N) (y : S1024x128.Idx) : S1024x18944.Idx := (((cfgm m).win 3).blk t).view.emb y

theorem emb_zero (t : Fin (cfgm m).N) (y : S1024x128.Idx) : (emb3 m t y 0 : ℕ) = y 0 := by
  unfold emb3
  blk_simp
  exact zero_block _ _
theorem idx3_one (t : Fin (cfgm m).N) : ((cfgm m).win 3).index t (1 : Fin 2) = (grid0.coords t 0).val := congrFun (idx3 m t) (1 : Fin 2)
theorem emb_one (t : Fin (cfgm m).N) (y : S1024x128.Idx) : (emb3 m t y 1 : ℕ) = (grid0.coords t 0).val * 128 + y 1 := by
  unfold emb3
  blk_simp
  exact congrArg (fun n => n * 128 + (y 1 : ℕ)) (idx3_one m t)

/-- A column block's values are those of `result` where they land. -/
theorem outBlk_emb (t : Fin (cfgm m).N) (y : S1024x128.Idx) :
    outBlk m c t y = result (denseM m c) (V m c main_arg4) (V m c main_v25) (V m c main_arg3) (emb3 m t y) :=
  (outBlk_at m c t y).trans (result_at _ _ _ _ _ _ _ _ (emb_zero m t y) (emb_one m t y)).symm

/-- What the kernel's program leaves as its result. -/
theorem out_eq : (dats m 0 c).arrAt 3 (cfgm m).N
    = result (denseM m c) (V m c main_arg4) (V m c main_v25) (V m c main_arg3) := by
  refine (dats m 0 c).arrAt_eq_of_covers 3 _ (covers3 m) fun t hf y => ?_
  rw [after0_3]
  blk_simp
  exact outBlk_emb m c t y

end Cert.Proof.KernelIdeal
end
-- ==== Proof.ResultEqual.lean ====
/- The reference's product at an element, grouped by row blocks: it is the kernel's. -/
module

public import proofs.«01_k».proof.Proof.ResultReference
public import proofs.«01_k».proof.Proof.ResultIdeal
import Idealize.ShloMosaic.Lib.Pointwise
public import Idealize.ShloMosaic.Lib.ValueIdxCore

@[expose] public section

set_option maxRecDepth 65536

noncomputable section

namespace Cert.Proof.ReferenceIdeal

open Cert.ReferenceIdeal Cert.ReferenceIdeal.Gen
open Idealize.ShloMosaic

/-- The product at an element: a sum over all rows of the weights. -/
theorem product_at (a0 : Vec Ideal S1x1024x3584 .bf16) (w : Vec Ideal S28x128x148x128 .bf16) (t : Fin 1024) (n : Fin 18944) :
    product a0 w (ValueIdx.ix2 t n) = ∑ k : Fin 3584, (a0 (ValueIdx.ix3 (0 : Fin 1) t k) * w (ValueIdx.ix4 (⟨k / 128, by omega⟩ : Fin 28) (⟨k % 128, by omega⟩ : Fin 128)
       (⟨n / 128, by omega⟩ : Fin 148) (⟨n % 128, by omega⟩ : Fin 128)) : EReal) := by
  simp only [← ix2_eq_valueIdx, ← ix3_eq_valueIdx, ← ix4_eq_valueIdx]
  pointwise [product]

/-- The weights start at zero. -/
theorem zeros_at (i : S28x128x148x128.Idx) : zeros i = (0 : EReal) := by
  pointwise [zeros]

/-- The activations without their leading axis. -/
theorem x_at (a0 : Vec Ideal S1x1024x3584 .bf16) (t : Fin 1024) (k : Fin 3584) :
    (shapeCast KernelIdeal.S1024x3584 a0 KernelIdeal.Gen.shapeCasts_S1x1024x3584_S1024x3584 : Vec Ideal KernelIdeal.S1024x3584 .bf16) (ValueIdx.ix2 t k) = a0 (ValueIdx.ix3 (0 : Fin 1) t k) := by
  simp only [← ix2_eq_valueIdx, ← ix3_eq_valueIdx]
  pointwise

open KernelIdeal (rowAt part prod result)

/-- A sum over the rows, row block by row block. -/
theorem sum_rows (g : Fin 3584 → EReal) : ∑ k, g k = ∑ r : Fin 28, ∑ p : Fin 128, g (rowAt r p) := by
  rw [← Fintype.sum_prod_type' (fun r p => g (rowAt r p))]
  refine (Fintype.sum_equiv (finProdFinEquiv (m := 28) (n := 128)) _ g fun x => congrArg g (Fin.ext ?_)).symm
  show x.1.val * 128 + x.2.val = x.2.val + 128 * x.1.val
  omega

/-- The product of the activations with the weights that the blocks make is the kernel's result. -/
theorem product_eq (a0 : Vec Ideal S1x1024x3584 .bf16) (a1 : IVec S29 32) (a2 : IVec S1243 32) (a3 : Vec Ideal S1243x128x128 .fp8e4m3)
    (a4 : Vec Ideal S1243 .f32) :
    product a0 (weights zeros (refPlaces a1 a2) (k0_pay1 a3 a4))
      = result (KernelIdeal.dense a1 a2) a4 (shapeCast KernelIdeal.S1024x3584 a0 KernelIdeal.Gen.shapeCasts_S1x1024x3584_S1024x3584) a3 := by
  funext i
  have ei : i = ValueIdx.ix2 (i 0) (i 1) := by funext a; fin_cases a <;> rfl
  refine (congrArg _ ei).trans ((product_at _ _ (i 0) (i 1)).trans ?_)
  rw [sum_rows]
  unfold result
  refine Finset.sum_congr rfl fun r _ => ?_
  have hr : ∀ p : Fin 128, (⟨(rowAt r p).val / 128, by omega⟩ : Fin 28) = r := fun p => Fin.ext (by show (r.val * 128 + p.val) / 128 = r.val; omega)
  have hp : ∀ p : Fin 128, (⟨(rowAt r p).val % 128, by omega⟩ : Fin 128) = p := fun p => Fin.ext (by show (r.val * 128 + p.val) % 128 = p.val; omega)
  simp only [hr, hp, weights_at a1 a2]
  unfold part
  split
  · unfold prod
    refine Finset.sum_congr rfl fun p _ => ?_
    rw [scaled_at]
    exact congrArg (· * _) (x_at a0 (i 0) (rowAt r p)).symm
  · refine Finset.sum_eq_zero fun p _ => ?_
    rw [zeros_at, mul_zero]

end Cert.Proof.ReferenceIdeal
end
-- ==== Proof.Algebraic.lean ====
/- The value claim: on equal arguments the idealized kernel's program and the reference's program leave the same result. -/
module

public import proofs.«01_k».proof.Defs
public import proofs.«01_k».proof.Proof.ResultEqual

@[expose] public section

noncomputable section

namespace Cert.Proof

open Idealize.ShloMosaic Idealize.ShloMosaic.TcCoe Idealize.SL.Sem

/-- The kernel's program ends with its result at `result` of its arguments, and its arguments as they were. -/
theorem kernel_run (m : (ℓ : Loc KernelIdeal.nD KernelIdeal.τ KernelIdeal.sig) → Buf (Elt Ideal) ℓ) (g : Dev KernelIdeal.nD → PrngReg) :
    θ_run (KernelIdeal.defs (F := Ideal)) (onTc (τ := KernelIdeal.τ) (KernelIdeal.main (F := Ideal))) ⟨m, fun _ => 0, g⟩ (fun r => ∀ c : Dev KernelIdeal.nD,
      r.2.mem ((c.tc : Thread KernelIdeal.nD KernelIdeal.τ).loc KernelIdeal.main_v26)
        = KernelIdeal.result (KernelIdeal.denseM m c) (m ((c.tc : Thread KernelIdeal.nD KernelIdeal.τ).loc KernelIdeal.main_arg4))
          (shapeCast KernelIdeal.S1024x3584 (m ((c.tc : Thread KernelIdeal.nD KernelIdeal.τ).loc KernelIdeal.main_arg0)) KernelIdeal.Gen.shapeCasts_S1x1024x3584_S1024x3584)
          (m ((c.tc : Thread KernelIdeal.nD KernelIdeal.τ).loc KernelIdeal.main_arg3))
      ∧ r.2.mem ((c.tc : Thread KernelIdeal.nD KernelIdeal.τ).loc KernelIdeal.main_arg0) = m ((c.tc : Thread KernelIdeal.nD KernelIdeal.τ).loc KernelIdeal.main_arg0)
      ∧ r.2.mem ((c.tc : Thread KernelIdeal.nD KernelIdeal.τ).loc KernelIdeal.main_arg1) = m ((c.tc : Thread KernelIdeal.nD KernelIdeal.τ).loc KernelIdeal.main_arg1)
      ∧ r.2.mem ((c.tc : Thread KernelIdeal.nD KernelIdeal.τ).loc KernelIdeal.main_arg2) = m ((c.tc : Thread KernelIdeal.nD KernelIdeal.τ).loc KernelIdeal.main_arg2)
      ∧ r.2.mem ((c.tc : Thread KernelIdeal.nD KernelIdeal.τ).loc KernelIdeal.main_arg3) = m ((c.tc : Thread KernelIdeal.nD KernelIdeal.τ).loc KernelIdeal.main_arg3)
      ∧ r.2.mem ((c.tc : Thread KernelIdeal.nD KernelIdeal.τ).loc KernelIdeal.main_arg4) = m ((c.tc : Thread KernelIdeal.nD KernelIdeal.τ).loc KernelIdeal.main_arg4)) := by
  refine (θ_run _ _ _).mono (fun r h c => ⟨?_, KernelIdeal.args_of m r h.1 c⟩) (KernelIdeal.run_main m g (KernelIdeal.tables_ok m))
  refine ((h.1 c).1 3).trans ((KernelIdeal.out_eq m c).trans ?_)
  rw [KernelIdeal.V_main_arg3, KernelIdeal.V_main_arg4, KernelIdeal.V_v25]

/-- The reference's program ends with its result at `product` of its arguments, and its arguments as they were. -/
theorem reference_run (m : (ℓ : Loc ReferenceIdeal.nD ReferenceIdeal.τ ReferenceIdeal.sig) → Buf (Elt Ideal) ℓ) (g : Dev ReferenceIdeal.nD → PrngReg) :
    θ_run (ReferenceIdeal.defs (F := Ideal)) (onTc (τ := ReferenceIdeal.τ) (ReferenceIdeal.main (F := Ideal))) ⟨m, fun _ => 0, g⟩ (fun r => ∀ c : Dev ReferenceIdeal.nD,
      r.2.mem ((c.tc : Thread ReferenceIdeal.nD ReferenceIdeal.τ).loc ReferenceIdeal.main_v23)
        = ReferenceIdeal.product (m ((c.tc : Thread ReferenceIdeal.nD ReferenceIdeal.τ).loc ReferenceIdeal.main_arg0))
          (weights ReferenceIdeal.zeros (refPlaces (m ((c.tc : Thread ReferenceIdeal.nD ReferenceIdeal.τ).loc ReferenceIdeal.main_arg1))
              (m ((c.tc : Thread ReferenceIdeal.nD ReferenceIdeal.τ).loc ReferenceIdeal.main_arg2)))
            (ReferenceIdeal.Gen.k0_pay1 (m ((c.tc : Thread ReferenceIdeal.nD ReferenceIdeal.τ).loc ReferenceIdeal.main_arg3))
              (m ((c.tc : Thread ReferenceIdeal.nD ReferenceIdeal.τ).loc ReferenceIdeal.main_arg4))))
      ∧ r.2.mem ((c.tc : Thread ReferenceIdeal.nD ReferenceIdeal.τ).loc ReferenceIdeal.main_arg0) = m ((c.tc : Thread ReferenceIdeal.nD ReferenceIdeal.τ).loc ReferenceIdeal.main_arg0)
      ∧ r.2.mem ((c.tc : Thread ReferenceIdeal.nD ReferenceIdeal.τ).loc ReferenceIdeal.main_arg1) = m ((c.tc : Thread ReferenceIdeal.nD ReferenceIdeal.τ).loc ReferenceIdeal.main_arg1)
      ∧ r.2.mem ((c.tc : Thread ReferenceIdeal.nD ReferenceIdeal.τ).loc ReferenceIdeal.main_arg2) = m ((c.tc : Thread ReferenceIdeal.nD ReferenceIdeal.τ).loc ReferenceIdeal.main_arg2)
      ∧ r.2.mem ((c.tc : Thread ReferenceIdeal.nD ReferenceIdeal.τ).loc ReferenceIdeal.main_arg3) = m ((c.tc : Thread ReferenceIdeal.nD ReferenceIdeal.τ).loc ReferenceIdeal.main_arg3)
      ∧ r.2.mem ((c.tc : Thread ReferenceIdeal.nD ReferenceIdeal.τ).loc ReferenceIdeal.main_arg4) = m ((c.tc : Thread ReferenceIdeal.nD ReferenceIdeal.τ).loc ReferenceIdeal.main_arg4)) := by
  open Cert.ReferenceIdeal Cert.ReferenceIdeal.Gen in
  refine (θ_run _ _ _).mono (fun r h c => ⟨?_,
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 0).trans (((dats m 0 c).arrAt_in 0 rfl _).trans ((A_eq m c 0).trans (V_main_arg3 m c))),
      ((h c).1 1).trans (((dats m 0 c).arrAt_in 1 rfl _).trans ((A_eq m c 1).trans (V_main_arg4 m c)))⟩) (run_main m g)
  exact ((h c).2 ReferenceIdeal.main_v23 (Pipeline.mem_restRefs_of ReferenceIdeal.main_v23 (by decide) (by decide))).trans (ReferenceIdeal.out_eq m c)

/-- The value claim. -/
theorem algebraic : Cert.algebraic_KernelIdeal_ReferenceIdeal (hKernelIdeal := Cert.KernelIdeal.Gen.facts) (hReferenceIdeal := Cert.ReferenceIdeal.Gen.facts) :=
  fun m g m' g' _ hm => by
    refine ⟨_, kernel_run m g, (θ_run _ _ _).mono (fun r h c => ⟨(h c).1.trans ?_, (h c).2⟩) (reference_run m' g')⟩
    obtain ⟨e0, e1, e2, e3, e4⟩ := hm c
    rw [e0, e1, e2, e3, e4]
    exact ReferenceIdeal.product_eq _ _ _ _ _

end Cert.Proof

end
-- ==== Proof.lean ====
/- The claim: the kernel's program, its idealization and the reference's program each leave their arguments as they were,
   and the last two leave equal results on equal arguments. -/
module

public import proofs.«01_k».proof.Defs
public import proofs.«01_k».proof.Proof.OkKernel
public import proofs.«01_k».proof.Proof.OkIdeal
public import proofs.«01_k».proof.Proof.Gen.ReferenceIdeal.Frame
public import proofs.«01_k».proof.Proof.Algebraic

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  fun m g _ => Kernel.frame_of m g (Kernel.tables_ok m),
  fun m g _ => KernelIdeal.frame_of m g (KernelIdeal.tables_ok m),
  fun m g _ => Cert.ReferenceIdeal.Gen.frame m g,
  trivial,
  algebraic⟩

end Cert.Proof

end
